-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_labelled [hPre_finite_and_labelled : Cert.Pre_finite_and_labelled.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_labelled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_labelled [hPre_finite_and_labelled : Cert.Pre_finite_and_labelled.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_labelled.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_and_labelled [hKernelIdeal : Cert.KernelIdeal.Facts] [hPre_finite_and_labelled : Cert.Pre_finite_and_labelled.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_labelled m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_and_labelled [hReferenceIdeal : Cert.ReferenceIdeal.Facts] [hPre_finite_and_labelled : Cert.Pre_finite_and_labelled.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_labelled m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_and_labelled [hKernelIdeal : Cert.KernelIdeal.Facts] [hReferenceIdeal : Cert.ReferenceIdeal.Facts] [hPre_finite_and_labelled : Cert.Pre_finite_and_labelled.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_labelled m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_and_labelled : Cert.Pre_finite_and_labelled.Facts),
    quiescent_Kernel (hKernel := hKernel)
    ∧ quiescent_KernelIdeal (hKernelIdeal := hKernelIdeal)
    ∧ quiescent_KernelIdeal_pre_finite_and_labelled (hKernelIdeal := hKernelIdeal) (hPre_finite_and_labelled := hPre_finite_and_labelled)
    ∧ quiescent_ReferenceIdeal (hReferenceIdeal := hReferenceIdeal)
    ∧ quiescent_ReferenceIdeal_pre_finite_and_labelled (hReferenceIdeal := hReferenceIdeal) (hPre_finite_and_labelled := hPre_finite_and_labelled)
    ∧ preserves_Kernel_KernelIdeal
    ∧ algebraic_KernelIdeal_ReferenceIdeal_pre_finite_and_labelled (hKernelIdeal := hKernelIdeal) (hReferenceIdeal := hReferenceIdeal) (hPre_finite_and_labelled := hPre_finite_and_labelled)
-- ==== Pre_finite_and_labelled.lean ====
abbrev S8x256x32x32 : Shape := ⟨4, ![8, 256, 32, 32]⟩
abbrev S8192x256 : Shape := ⟨2, ![8192, 256]⟩
abbrev S8 : Shape := ⟨1, ![8]⟩
abbrev S_ : Shape := ⟨0, ![]⟩

class Facts : Prop where
  bcast_S_S8x256x32x32 : S_.BroadcastsInDim S8x256x32x32 (![] : Fin 0 → Fin S8x256x32x32.rank)
  reducesTo_S8x256x32x32_S_d0_1_2_3 : S8x256x32x32.ReducesTo [0, 1, 2, 3] S_
  h_S_ : 0 < S_.numel
  bcast_S_S8192x256 : S_.BroadcastsInDim S8192x256 (![] : Fin 0 → Fin S8192x256.rank)
  reducesTo_S8192x256_S_d0_1 : S8192x256.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_v5 : IVec S_ 1) (main_v11 : IVec S_ 1) (main_v13 : IVec S8 1) (main_v15 : IVec S8 1) : IVec S_ 1 :=
  let main_v16 : IVec S8 1 := andi main_v13 main_v15
  let main_c_6 : IVec S_ 1 := constantI S_ 1 1#1
  let main_v17 : IVec S_ 1 := (fun x v => Host.reduce IntOp.andi x v reducesTo_S8_S_d0 h_S_) main_v16 main_c_6
  let main_v18 : IVec S_ 1 := andi main_v5 main_v11
  let main_v19 : IVec S_ 1 := andi main_v18 main_v17
  main_v19

def fn {F : FTy → Type} [FloatOps F] (main_arg0 : FVec F S8x256x32x32 .f32) (main_arg1 : FVec F S8192x256 .f32) (main_arg2 : IVec S8 32) : IVec S_ 1 :=
  let main_cst : FVec F S_ .f32 := constant S_ .f32 0xFF800000#32
  let main_v0 : FVec F S8x256x32x32 .f32 := broadcastInDim S8x256x32x32 ![] bcast_S_S8x256x32x32 main_cst
  let main_v1 : IVec S8x256x32x32 1 := cmpf .ogt main_arg0 main_v0
  let main_cst_0 : FVec F S_ .f32 := constant S_ .f32 0x7F800000#32
  let main_v2 : FVec F S8x256x32x32 .f32 := broadcastInDim S8x256x32x32 ![] bcast_S_S8x256x32x32 main_cst_0
  let main_v3 : IVec S8x256x32x32 1 := cmpf .olt main_arg0 main_v2
  let main_v4 : IVec S8x256x32x32 1 := andi main_v1 main_v3
  let main_c : IVec S_ 1 := constantI S_ 1 1#1
  let main_v5 : IVec S_ 1 := (fun x v => Host.reduce IntOp.andi x v reducesTo_S8x256x32x32_S_d0_1_2_3 h_S_) main_v4 main_c
  let main_cst_1 : FVec F S_ .f32 := constant S_ .f32 0xFF800000#32
  let main_v6 : FVec F S8192x256 .f32 := broadcastInDim S8192x256 ![] bcast_S_S8192x256 main_cst_1
  let main_v7 : IVec S8192x256 1 := cmpf .ogt main_arg1 main_v6
  let main_cst_2 : FVec F S_ .f32 := constant S_ .f32 0x7F800000#32
  let main_v8 : FVec F S8192x256 .f32 := broadcastInDim S8192x256 ![] bcast_S_S8192x256 main_cst_2
  let main_v9 : IVec S8192x256 1 := cmpf .olt main_arg1 main_v8
  let main_v10 : IVec S8192x256 1 := andi main_v7 main_v9
  let main_c_3 : IVec S_ 1 := constantI S_ 1 1#1
  let main_v11 : IVec S_ 1 := (fun x v => Host.reduce IntOp.andi x v reducesTo_S8192x256_S_d0_1 h_S_) main_v10 main_c_3
  let main_c_4 : IVec S_ 32 := constantI S_ 32 0#32
  let main_v12 : IVec S8 32 := broadcastInDim S8 ![] bcast_S_S8 main_c_4
  let main_v13 : IVec S8 1 := cmpi .sge main_arg2 main_v12
  let main_c_5 : IVec S_ 32 := constantI S_ 32 10#32
  let main_v14 : IVec S8 32 := broadcastInDim S8 ![] bcast_S_S8 main_c_5
  let main_v15 : IVec S8 1 := cmpi .slt main_arg2 main_v14
  fn_part1 (F := F) main_v5 main_v11 main_v13 main_v15
-- ==== Kernel.lean ====
abbrev S8x256x32x32 : Shape := ⟨4, ![8, 256, 32, 32]⟩
abbrev S8192x256 : Shape := ⟨2, ![8192, 256]⟩
abbrev S8 : Shape := ⟨1, ![8]⟩
abbrev S_ : Shape := ⟨0, ![]⟩
abbrev S8181 : Shape := ⟨1, ![8181]⟩
abbrev S1 : Shape := ⟨1, ![1]⟩
abbrev S8182 : Shape := ⟨1, ![8182]⟩
abbrev S10 : Shape := ⟨1, ![10]⟩
abbrev S1x8182 : Shape := ⟨2, ![1, 8182]⟩
abbrev S10x1 : Shape := ⟨2, ![10, 1]⟩
abbrev S10x8182 : Shape := ⟨2, ![10, 8182]⟩
abbrev S8x1 : Shape := ⟨2, ![8, 1]⟩
abbrev S8x32x32x256 : Shape := ⟨4, ![8, 32, 32, 256]⟩
abbrev S8192 : Shape := ⟨1, ![8192]⟩
abbrev S8x1x1024 : Shape := ⟨3, ![8, 1, 1024]⟩
abbrev S8x256x1024 : Shape := ⟨3, ![8, 256, 1024]⟩
abbrev S1x256x1024 : Shape := ⟨3, ![1, 256, 1024]⟩
abbrev S1x1x1024 : Shape := ⟨3, ![1, 1, 1024]⟩
abbrev S832x256 : Shape := ⟨2, ![832, 256]⟩
abbrev S256x1024 : Shape := ⟨2, ![256, 1024]⟩
abbrev S1x1024 : Shape := ⟨2, ![1, 1024]⟩
abbrev S832 : Shape := ⟨1, ![832]⟩
abbrev S832x1 : Shape := ⟨2, ![832, 1]⟩
abbrev S832x1024 : Shape := ⟨2, ![832, 1024]⟩
abbrev S1024 : Shape := ⟨1, ![1024]⟩
abbrev S8x32x32 : Shape := ⟨3, ![8, 32, 32]⟩

abbrev nBuf : Space → Nat
  | .hbm => 68
  | .vmem => 7
  | .smem => 2
  | _ => 0

abbrev bufTy : (tb : Table) → Fin (tcTables nBuf tb) → BufTy
  | .hbm, ⟨0, _⟩ => ⟨S8x256x32x32, .f32⟩
  | .hbm, ⟨1, _⟩ => ⟨S8192x256, .f32⟩
  | .hbm, ⟨2, _⟩ => ⟨S8, .i32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8181, .f32⟩
  | .hbm, ⟨11, _⟩ => ⟨S_, .f32⟩
  | .hbm, ⟨12, _⟩ => ⟨S8181, .f32⟩
  | .hbm, ⟨13, _⟩ => ⟨S8181, .f32⟩
  | .hbm, ⟨14, _⟩ => ⟨S1, .f32⟩
  | .hbm, ⟨15, _⟩ => ⟨S_, .f32⟩
  | .hbm, ⟨16, _⟩ => ⟨S8181, .f32⟩
  | .hbm, ⟨17, _⟩ => ⟨S8181, .f32⟩
  | .hbm, ⟨18, _⟩ => ⟨S8181, .f32⟩
  | .hbm, ⟨19, _⟩ => ⟨S8181, .f32⟩
  | .hbm, ⟨20, _⟩ => ⟨S1, .f32⟩
  | .hbm, ⟨21, _⟩ => ⟨S8181, .f32⟩
  | .hbm, ⟨22, _⟩ => ⟨S8181, .f32⟩
  | .hbm, ⟨23, _⟩ => ⟨S8181, .f32⟩
  | .hbm, ⟨24, _⟩ => ⟨S1, .f32⟩
  | .hbm, ⟨25, _⟩ => ⟨S8182, .f32⟩
  | .hbm, ⟨26, _⟩ => ⟨S8182, .f32⟩
  | .hbm, ⟨27, _⟩ => ⟨S10, .i32⟩
  | .hbm, ⟨28, _⟩ => ⟨S10, .f32⟩
  | .hbm, ⟨29, _⟩ => ⟨S1x8182, .f32⟩
  | .hbm, ⟨30, _⟩ => ⟨S10x1, .f32⟩
  | .hbm, ⟨31, _⟩ => ⟨S10x8182, .f32⟩
  | .hbm, ⟨32, _⟩ => ⟨S10x8182, .f32⟩
  | .hbm, ⟨33, _⟩ => ⟨S10x8182, .i1⟩
  | .hbm, ⟨34, _⟩ => ⟨S10x8182, .i32⟩
  | .hbm, ⟨35, _⟩ => ⟨S_, .i32⟩
  | .hbm, ⟨36, _⟩ => ⟨S10, .i32⟩
  | .hbm, ⟨37, _⟩ => ⟨S10x8182, .i32⟩
  | .hbm, ⟨38, _⟩ => ⟨S_, .i1⟩
  | .hbm, ⟨39, _⟩ => ⟨S_, .i32⟩
  | .hbm, ⟨40, _⟩ => ⟨S10, .i1⟩
  | .hbm, ⟨41, _⟩ => ⟨S10, .i32⟩
  | .hbm, ⟨42, _⟩ => ⟨S10, .i32⟩
  | .hbm, ⟨43, _⟩ => ⟨S_, .i32⟩
  | .hbm, ⟨44, _⟩ => ⟨S8, .i32⟩
  | .hbm, ⟨45, _⟩ => ⟨S8, .i1⟩
  | .hbm, ⟨46, _⟩ => ⟨S_, .i32⟩
  | .hbm, ⟨47, _⟩ => ⟨S8, .i32⟩
  | .hbm, ⟨48, _⟩ => ⟨S8, .i32⟩
  | .hbm, ⟨49, _⟩ => ⟨S8, .i32⟩
  | .hbm, ⟨50, _⟩ => ⟨S8x1, .i32⟩
  | .hbm, ⟨51, _⟩ => ⟨S_, .i32⟩
  | .hbm, ⟨52, _⟩ => ⟨S8, .i32⟩
  | .hbm, ⟨53, _⟩ => ⟨S8, .i1⟩
  | .hbm, ⟨54, _⟩ => ⟨S_, .i32⟩
  | .hbm, ⟨55, _⟩ => ⟨S8, .i32⟩
  | .hbm, ⟨56, _⟩ => ⟨S8, .i32⟩
  | .hbm, ⟨57, _⟩ => ⟨S8, .i32⟩
  | .hbm, ⟨58, _⟩ => ⟨S8x1, .i32⟩
  | .hbm, ⟨59, _⟩ => ⟨S8x32x32x256, .f32⟩
  | .hbm, ⟨60, _⟩ => ⟨S8192x256, .f32⟩
  | .hbm, ⟨61, _⟩ => ⟨S8192x256, .f32⟩
  | .hbm, ⟨62, _⟩ => ⟨S_, .f32⟩
  | .hbm, ⟨63, _⟩ => ⟨S8192, .f32⟩
  | .hbm, ⟨64, _⟩ => ⟨S8x1x1024, .f32⟩
  | .hbm, ⟨65, _⟩ => ⟨S8x256x1024, .f32⟩
  | .hbm, ⟨66, _⟩ => ⟨S8x1x1024, .i32⟩
  | .hbm, ⟨67, _⟩ => ⟨S8x32x32, .i32⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S8192x256, .f32⟩
  | .local _ .vmem, ⟨5, _⟩ => ⟨S1x1x1024, .i32⟩
  | .local _ .vmem, ⟨6, _⟩ => ⟨S1x1x1024, .i32⟩
  | .local _ .smem, ⟨0, _⟩ => ⟨S8, .i32⟩
  | .local _ .smem, ⟨1, _⟩ => ⟨S8, .i32⟩
  | _, _ => ⟨S8x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_cst : Ref sig .tc := ⟨.hbm, 8, rfl⟩
abbrev main_call0_v3 : Ref sig .tc := ⟨.hbm, 9, rfl⟩
abbrev main_call0_v4 : Ref sig .tc := ⟨.hbm, 10, rfl⟩
abbrev main_call0_cst_0 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_cst_1 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_v15 : Ref sig .tc := ⟨.hbm, 23, rfl⟩
abbrev main_call0_v16 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_c : Ref sig .tc := ⟨.hbm, 35, rfl⟩
abbrev main_v10 : Ref sig .tc := ⟨.hbm, 36, rfl⟩
abbrev main_call2_v0 : Ref sig .tc := ⟨.hbm, 37, rfl⟩
abbrev main_call2_c : Ref sig .tc := ⟨.hbm, 38, rfl⟩
abbrev main_call2_c_0 : Ref sig .tc := ⟨.hbm, 39, rfl⟩
abbrev main_call2_v1_0 : Ref sig .tc := ⟨.hbm, 40, rfl⟩
abbrev main_v11 : Ref sig .tc := ⟨.hbm, 41, rfl⟩
abbrev main_v12 : Ref sig .tc := ⟨.hbm, 42, rfl⟩
abbrev main_c_1 : Ref sig .tc := ⟨.hbm, 43, rfl⟩
abbrev main_v13 : Ref sig .tc := ⟨.hbm, 44, rfl⟩
abbrev main_v14 : Ref sig .tc := ⟨.hbm, 45, rfl⟩
abbrev main_c_2 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_c_3 : Ref sig .tc := ⟨.hbm, 51, rfl⟩
abbrev main_v20 : Ref sig .tc := ⟨.hbm, 52, rfl⟩
abbrev main_v21 : Ref sig .tc := ⟨.hbm, 53, rfl⟩
abbrev main_c_4 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_cst_5 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v19 : Ref sig .tc := ⟨.smem, 0, rfl⟩
abbrev main_v26 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

abbrev pre0 : Pipeline.Prefetch sig := ⟨2, ![main_v19.idx, main_v26.idx], fun | 0 => main_v19.names | 1 => main_v26.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (v1 : BitVec 32) : Fin 2 → Nat :=
  let c0_i32 : BitVec 32 := 0#32
  let v5 : BitVec 1 := Scalar.cmpi .sgt v1 c0_i32
  let v6 : BitVec 32 := Scalar.extui v5
  let c0_i32_0 : BitVec 32 := 0#32
  let v7 : BitVec 1 := Scalar.cmpi .slt v1 c0_i32_0
  let v8 : BitVec 32 := Scalar.extui v7
  let v9 : BitVec 32 := Scalar.subi v6 v8
  let c8_i32 : BitVec 32 := 8#32
  let c0_i32_1 : BitVec 32 := 0#32
  let v10 : BitVec 1 := Scalar.cmpi .sgt c8_i32 c0_i32_1
  let v11 : BitVec 32 := Scalar.extui v10
  let c0_i32_2 : BitVec 32 := 0#32
  let v12 : BitVec 1 := Scalar.cmpi .slt c8_i32 c0_i32_2
  let v13 : BitVec 32 := Scalar.extui v12
  let v14 : BitVec 32 := Scalar.subi v11 v13
  let v15 : BitVec 1 := Scalar.cmpi .ne v9 v14
  let v16 : BitVec 32 := Scalar.remsi v1 c8_i32
  let c0_i32_3 : BitVec 32 := 0#32
  let v17 : BitVec 1 := Scalar.cmpi .ne v16 c0_i32_3
  let v18 : BitVec 1 := Scalar.andi v15 v17
  let v4 : BitVec 32 := Scalar.divsi v1 c8_i32
  let c1_i32 : BitVec 32 := 1#32
  let v19 : BitVec 32 := Scalar.subi v4 c1_i32
  let v20 : BitVec 32 := Scalar.select v18 v19 v4
  let c8_i32_4 : BitVec 32 := 8#32
  let v21 : BitVec 32 := Scalar.muli v20 c8_i32_4
  let c7360_i32 : BitVec 32 := 7360#32
  let v22 : BitVec 32 := Scalar.minsi v21 c7360_i32
  let v23 : Index := Scalar.indexCast v22
  let c0 : Index := 0#32
  ![v23.toNat, 0]

def k0_chk1 (v1 : BitVec 32) : Prop :=
  (∀ a, (k0_off2 v1) a + S832x256.size a ≤ S8192x256.size a)
theorem k0_off2_inb : ∀ (v1 : BitVec 32) (k0_hw1 : k0_chk1 v1), ∀ a, (k0_off2 v1) a + S832x256.size a ≤ S8192x256.size a := fun v1 k0_hw1 => k0_hw1

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8192x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S8x256x32x32 : Shape := ⟨4, ![8, 256, 32, 32]⟩
abbrev S8192x256 : Shape := ⟨2, ![8192, 256]⟩
abbrev S8 : Shape := ⟨1, ![8]⟩
abbrev S8x32x32x256 : Shape := ⟨4, ![8, 32, 32, 256]⟩
abbrev S8x1024 : Shape := ⟨2, ![8, 1024]⟩
abbrev S8192 : Shape := ⟨1, ![8192]⟩
abbrev S_ : Shape := ⟨0, ![]⟩
abbrev S8181 : Shape := ⟨1, ![8181]⟩
abbrev S1 : Shape := ⟨1, ![1]⟩
abbrev S8182 : Shape := ⟨1, ![8182]⟩
abbrev S1x8182 : Shape := ⟨2, ![1, 8182]⟩
abbrev S8192x1 : Shape := ⟨2, ![8192, 1]⟩
abbrev S8192x8182 : Shape := ⟨2, ![8192, 8182]⟩
abbrev S8192x10 : Shape := ⟨2, ![8192, 10]⟩
abbrev S8192x8192 : Shape := ⟨2, ![8192, 8192]⟩
abbrev S1x8192 : Shape := ⟨2, ![1, 8192]⟩
abbrev S256x8192 : Shape := ⟨2, ![256, 8192]⟩
abbrev S8x32x32 : Shape := ⟨3, ![8, 32, 32]⟩

abbrev nBuf : Space → Nat
  | .hbm => 67
  | .vmem => 0
  | .smem => 0
  | _ => 0

abbrev bufTy : (tb : Table) → Fin (tcTables nBuf tb) → BufTy
  | .hbm, ⟨0, _⟩ => ⟨S8x256x32x32, .f32⟩
  | .hbm, ⟨1, _⟩ => ⟨S8192x256, .f32⟩
  | .hbm, ⟨2, _⟩ => ⟨S8, .i32⟩
  | .hbm, ⟨3, _⟩ => ⟨S8x32x32x256, .f32⟩
  | .hbm, ⟨4, _⟩ => ⟨S8192x256, .f32⟩
  | .hbm, ⟨5, _⟩ => ⟨S8x1024, .i32⟩
  | .hbm, ⟨6, _⟩ => ⟨S8192, .i32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S8181, .f32⟩
  | .hbm, ⟨15, _⟩ => ⟨S_, .f32⟩
  | .hbm, ⟨16, _⟩ => ⟨S8181, .f32⟩
  | .hbm, ⟨17, _⟩ => ⟨S8181, .f32⟩
  | .hbm, ⟨18, _⟩ => ⟨S1, .f32⟩
  | .hbm, ⟨19, _⟩ => ⟨S_, .f32⟩
  | .hbm, ⟨20, _⟩ => ⟨S8181, .f32⟩
  | .hbm, ⟨21, _⟩ => ⟨S8181, .f32⟩
  | .hbm, ⟨22, _⟩ => ⟨S8181, .f32⟩
  | .hbm, ⟨23, _⟩ => ⟨S8181, .f32⟩
  | .hbm, ⟨24, _⟩ => ⟨S1, .f32⟩
  | .hbm, ⟨25, _⟩ => ⟨S8181, .f32⟩
  | .hbm, ⟨26, _⟩ => ⟨S8181, .f32⟩
  | .hbm, ⟨27, _⟩ => ⟨S8181, .f32⟩
  | .hbm, ⟨28, _⟩ => ⟨S1, .f32⟩
  | .hbm, ⟨29, _⟩ => ⟨S8182, .f32⟩
  | .hbm, ⟨30, _⟩ => ⟨S8182, .f32⟩
  | .hbm, ⟨31, _⟩ => ⟨S1x8182, .f32⟩
  | .hbm, ⟨32, _⟩ => ⟨S8192x1, .i32⟩
  | .hbm, ⟨33, _⟩ => ⟨S8192x1, .f32⟩
  | .hbm, ⟨34, _⟩ => ⟨S8192x8182, .f32⟩
  | .hbm, ⟨35, _⟩ => ⟨S8192x8182, .f32⟩
  | .hbm, ⟨36, _⟩ => ⟨S8192x8182, .i1⟩
  | .hbm, ⟨37, _⟩ => ⟨S_, .i1⟩
  | .hbm, ⟨38, _⟩ => ⟨S8192x10, .i1⟩
  | .hbm, ⟨39, _⟩ => ⟨S8192x8192, .i1⟩
  | .hbm, ⟨40, _⟩ => ⟨S8192x256, .f32⟩
  | .hbm, ⟨41, _⟩ => ⟨S_, .f32⟩
  | .hbm, ⟨42, _⟩ => ⟨S8192, .f32⟩
  | .hbm, ⟨43, _⟩ => ⟨S8192x256, .f32⟩
  | .hbm, ⟨44, _⟩ => ⟨S_, .f32⟩
  | .hbm, ⟨45, _⟩ => ⟨S8192, .f32⟩
  | .hbm, ⟨46, _⟩ => ⟨S8192x1, .f32⟩
  | .hbm, ⟨47, _⟩ => ⟨S1x8192, .f32⟩
  | .hbm, ⟨48, _⟩ => ⟨S8192x8192, .f32⟩
  | .hbm, ⟨49, _⟩ => ⟨S8192x8192, .f32⟩
  | .hbm, ⟨50, _⟩ => ⟨S8192x8192, .f32⟩
  | .hbm, ⟨51, _⟩ => ⟨S256x8192, .f32⟩
  | .hbm, ⟨52, _⟩ => ⟨S8192x8192, .f32⟩
  | .hbm, ⟨53, _⟩ => ⟨S_, .f32⟩
  | .hbm, ⟨54, _⟩ => ⟨S8192x8192, .f32⟩
  | .hbm, ⟨55, _⟩ => ⟨S8192x8192, .f32⟩
  | .hbm, ⟨56, _⟩ => ⟨S8192x8192, .f32⟩
  | .hbm, ⟨57, _⟩ => ⟨S_, .f32⟩
  | .hbm, ⟨58, _⟩ => ⟨S_, .f32⟩
  | .hbm, ⟨59, _⟩ => ⟨S8192x8192, .f32⟩
  | .hbm, ⟨60, _⟩ => ⟨S8192x8192, .f32⟩
  | .hbm, ⟨61, _⟩ => ⟨S8192x8192, .i32⟩
  | .hbm, ⟨62, _⟩ => ⟨S_, .f32⟩
  | .hbm, ⟨63, _⟩ => ⟨S_, .i32⟩
  | .hbm, ⟨64, _⟩ => ⟨S8192, .f32⟩
  | .hbm, ⟨65, _⟩ => ⟨S8192, .i32⟩
  | .hbm, ⟨66, _⟩ => ⟨S8x32x32, .i32⟩
  | _, _ => ⟨S8x256x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_cst : Ref sig .tc := ⟨.hbm, 12, rfl⟩
abbrev main_call0_v3 : Ref sig .tc := ⟨.hbm, 13, rfl⟩
abbrev main_call0_v4 : Ref sig .tc := ⟨.hbm, 14, rfl⟩
abbrev main_call0_cst_0 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_cst_1 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_v15 : Ref sig .tc := ⟨.hbm, 27, rfl⟩
abbrev main_call0_v16 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_c : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_cst_1 : Ref sig .tc := ⟨.hbm, 41, rfl⟩
abbrev main_v15 : Ref sig .tc := ⟨.hbm, 42, rfl⟩
abbrev main_v16 : Ref sig .tc := ⟨.hbm, 43, rfl⟩
abbrev main_cst_2 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_cst_3 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_cst_4 : Ref sig .tc := ⟨.hbm, 57, rfl⟩
abbrev main_call2_v0 : Ref sig .tc := ⟨.hbm, 58, rfl⟩
abbrev main_call2_v1 : Ref sig .tc := ⟨.hbm, 59, rfl⟩
abbrev main_v28 : Ref sig .tc := ⟨.hbm, 60, rfl⟩
abbrev main_call3_v0 : Ref sig .tc := ⟨.hbm, 61, rfl⟩
abbrev main_call3_cst : Ref sig .tc := ⟨.hbm, 62, rfl⟩
abbrev main_call3_c : Ref sig .tc := ⟨.hbm, 63, rfl⟩
abbrev main_call3_v1_0 : Ref sig .tc := ⟨.hbm, 64, rfl⟩
abbrev main_v29 : Ref sig .tc := ⟨.hbm, 65, rfl⟩
abbrev main_v30 : Ref sig .tc := ⟨.hbm, 66, rfl⟩

abbrev nD : Nat := 1
abbrev τ : Topo := Topo.v7x

variable {F : FTy → Type} [FloatOps F]
-- ==== Proof.Fold.lean ====
/- Folds that keep the entry of least key: the shape of an arg-max or arg-min reduction of two arrays. -/
module

public import Idealize.ShloMosaic.PureOps.Reduce
public import Mathlib.Order.Defs.LinearOrder

@[expose] public section

noncomputable section

namespace Cert.Proof

open Idealize.ShloMosaic

/-- A left fold by a step that keeps one of its two operands keeps the start or one of the list's entries. -/
theorem foldl_mem {α : Type} (f : α → α → α) (hf : ∀ a b, f a b = a ∨ f a b = b) (l : List α) (x : α) :
    l.foldl f x = x ∨ l.foldl f x ∈ l := by
  induction l generalizing x with
  | nil => exact Or.inl rfl
  | cons y l ih =>
    rw [List.foldl_cons]
    rcases ih (f x y) with h | h
    · rcases hf x y with h' | h'
      · exact Or.inl (h.trans h')
      · exact Or.inr (by rw [h, h']; exact List.mem_cons_self)
    · exact Or.inr (List.mem_cons_of_mem _ h)

/-- When the step keeps the operand of lesser key, the fold's key is at most every key in sight. -/
theorem foldl_le {α κ : Type} [LinearOrder κ] (key : α → κ) (f : α → α → α)
    (hf : ∀ a b, key (f a b) ≤ key a ∧ key (f a b) ≤ key b) (l : List α) (x : α) :
    key (l.foldl f x) ≤ key x ∧ ∀ y ∈ l, key (l.foldl f x) ≤ key y := by
  induction l generalizing x with
  | nil => exact ⟨le_rfl, fun y hy => absurd hy (List.not_mem_nil)⟩
  | cons y l ih =>
    rw [List.foldl_cons]
    obtain ⟨h1, h2⟩ := ih (f x y)
    refine ⟨h1.trans (hf x y).1, fun z hz => ?_⟩
    rcases List.mem_cons.mp hz with rfl | hz
    · exact h1.trans (hf x z).2
    · exact h2 z hz

variable {s t u : Shape} {α β : Type} {axes : List (Fin s.rank)}

/-- A step whose second component is one of its operands': the reduction's second component has any property the start's
    and every entry's have. -/
theorem reduce2_snd_of (P : β → Prop) (f : α × β → α × β → α × β) (hf : ∀ a b, (f a b).2 = a.2 ∨ (f a b).2 = b.2)
    (x : s.Idx → α) (y : s.Idx → β) (ix : u.Idx → α) (iy : u.Idx → β) (h : s.ReducesTo axes t) (hu : 0 < u.numel)
    (hi : P (iy (Shape.Idx.first hu))) (hy : ∀ i, P (y i)) (j : t.Idx) : P (Host.reduce2 f x y ix iy h hu j).2 := by
  rw [Host.reduce2_eq_foldl_fiber]
  have key : ∀ (l : List (α × β)) (z : α × β), P z.2 → (∀ w ∈ l, P w.2) → P (l.foldl f z).2 := by
    intro l
    induction l with
    | nil => intro z hz _; exact hz
    | cons w l ih =>
      intro z hz hl
      rw [List.foldl_cons]
      refine ih _ ?_ fun w' hw' => hl w' (List.mem_cons_of_mem _ hw')
      rcases hf z w with h' | h'
      · rw [h']; exact hz
      · rw [h']; exact hl w List.mem_cons_self
  refine key _ _ hi fun w hw => ?_
  unfold Host.argReduceFiber at hw
  obtain ⟨n, -, rfl⟩ := List.mem_map.mp hw
  exact hy _

/-- A step that keeps the operand of lesser key: the reduction is the start or an entry of its row, of least key. -/
theorem reduce2_least {κ : Type} [LinearOrder κ] (key : α × β → κ) (f : α × β → α × β → α × β)
    (hf : ∀ a b, (f a b = a ∨ f a b = b) ∧ key (f a b) ≤ key a ∧ key (f a b) ≤ key b)
    (x : s.Idx → α) (y : s.Idx → β) (ix : u.Idx → α) (iy : u.Idx → β) (h : s.ReducesTo axes t) (hu : 0 < u.numel) (j : t.Idx) :
    (Host.reduce2 f x y ix iy h hu j = (ix (Shape.Idx.first hu), iy (Shape.Idx.first hu))
      ∨ ∃ i, h.drop i = j ∧ Host.reduce2 f x y ix iy h hu j = (x i, y i))
    ∧ ∀ i, h.drop i = j → key (Host.reduce2 f x y ix iy h hu j) ≤ key (x i, y i) := by
  rw [Host.reduce2_eq_foldl_fiber]
  constructor
  · rcases foldl_mem f (fun a b => (hf a b).1) (Host.argReduceFiber x y h j)
      (ix (Shape.Idx.first hu), iy (Shape.Idx.first hu)) with h' | h'
    · exact Or.inl h'
    · right
      generalize (Host.argReduceFiber x y h j).foldl f (ix (Shape.Idx.first hu), iy (Shape.Idx.first hu)) = r at h' ⊢
      unfold Host.argReduceFiber at h'
      obtain ⟨n, hn, rfl⟩ := List.mem_map.mp h'
      exact ⟨s.rowMajor.symm n, of_decide_eq_true (List.mem_filter.mp hn).2, rfl⟩
  · intro i hi
    refine (foldl_le key f (fun a b => (hf a b).2) _ _).2 _ ?_
    unfold Host.argReduceFiber
    refine List.mem_map.mpr ⟨s.rowMajor i, List.mem_filter.mpr ⟨List.mem_finRange _, ?_⟩, ?_⟩
    · rw [Equiv.symm_apply_apply]; exact decide_eq_true hi
    · rw [Equiv.symm_apply_apply]

end Cert.Proof

end
-- ==== Proof.Word.lean ====
/- The window's row offset as a function of the first code index, and the range of an arg-max over an iota. -/
module

public import proofs.«01_k».proof.Proof.Fold
public import Idealize.ShloMosaic.Lib.Affine

@[expose] public section

noncomputable section

namespace Cert.Proof

open Idealize.ShloMosaic

/-- `⌊w / 8⌋ · 8` as signed 32-bit words compute it, cut at 7360. -/
def alignWord (v1 : BitVec 32) : BitVec 32 :=
  Scalar.minsi (Scalar.muli
    (Scalar.select
      (Scalar.andi
        (Scalar.cmpi .ne
          (Scalar.subi (Scalar.extui (Scalar.cmpi .sgt v1 0#32)) (Scalar.extui (Scalar.cmpi .slt v1 0#32)) : BitVec 32)
          (Scalar.subi (Scalar.extui (Scalar.cmpi .sgt 8#32 0#32)) (Scalar.extui (Scalar.cmpi .slt 8#32 0#32)) : BitVec 32))
        (Scalar.cmpi .ne (Scalar.remsi v1 8#32) 0#32))
      (Scalar.subi (Scalar.divsi v1 8#32) 1#32) (Scalar.divsi v1 8#32)) 8#32) 7360#32

/-- At a word from 0 to 8181 it is the least of 7360 and the multiple of 8 at or below the word. -/
theorem alignWord_toNat (v : BitVec 32) (h : v.toNat ≤ 8181) : (alignWord v).toNat = min (8 * (v.toNat / 8)) 7360 := by
  have hv : Affine.IsInt v v.toNat := by
    have h0 := Affine.ofNat v.toNat (e := v.toNat) ⟨rfl, by omega⟩
    rwa [BitVec.ofNat_toNat, BitVec.setWidth_eq] at h0
  have hi : v.toInt = v.toNat := BitVec.toInt_eq_toNat_of_lt (by omega)
  have hd := Affine.divsi (b := 8#32) (eb := 8) hv (Affine.ofNat 8 ⟨rfl, by omega⟩) ⟨rfl, by omega, by omega⟩
  have hsel : Scalar.select
      (Scalar.andi
        (Scalar.cmpi .ne
          (Scalar.subi (Scalar.extui (Scalar.cmpi .sgt v 0#32)) (Scalar.extui (Scalar.cmpi .slt v 0#32)) : BitVec 32)
          (Scalar.subi (Scalar.extui (Scalar.cmpi .sgt 8#32 0#32)) (Scalar.extui (Scalar.cmpi .slt 8#32 0#32)) : BitVec 32))
        (Scalar.cmpi .ne (Scalar.remsi v 8#32) 0#32))
      (Scalar.subi (Scalar.divsi v 8#32) 1#32) (Scalar.divsi v 8#32) = Scalar.divsi v 8#32 := by
    have hz : v = 0#32 ∨ 0 < v.toNat := by
      rcases Nat.eq_zero_or_pos v.toNat with h0 | h0
      · exact Or.inl (BitVec.eq_of_toNat_eq h0)
      · exact Or.inr h0
    rcases hz with rfl | hp
    · decide
    · have h1 : Scalar.cmpi .sgt v 0#32 = 1#1 := by
        have : (0#32).slt v = true := by
          rw [BitVec.slt_iff_toInt_lt, hi]
          show (0 : Int) < _
          omega
        show BitVec.ofBool ((0#32).slt v) = 1#1
        rw [this]; rfl
      have h2 : Scalar.cmpi .slt v 0#32 = 0#1 := by
        have : v.slt (0#32) = false := by
          rw [Bool.eq_false_iff]
          intro hc
          rw [BitVec.slt_iff_toInt_lt, hi] at hc
          have : (0#32 : BitVec 32).toInt = 0 := by decide
          omega
        show BitVec.ofBool (v.slt (0#32)) = 0#1
        rw [this]; rfl
      rw [h1, h2]
      have h3 : Scalar.cmpi .ne
          (Scalar.subi (Scalar.extui (1#1 : BitVec 1)) (Scalar.extui (0#1 : BitVec 1)) : BitVec 32)
          (Scalar.subi (Scalar.extui (Scalar.cmpi .sgt 8#32 0#32)) (Scalar.extui (Scalar.cmpi .slt 8#32 0#32)) : BitVec 32) = 0#1 := by
        decide
      rw [h3]
      have h4 : ∀ b : BitVec 1, Scalar.andi 0#1 b = 0#1 := by decide
      rw [h4]
      rfl
  unfold alignWord
  rw [hsel]
  have hm := Affine.minsi (b := 7360#32) (eb := 7360)
    (Affine.muli (b := 8#32) (eb := 8) hd (Affine.ofNat 8 ⟨rfl, by omega⟩) ⟨rfl, by omega, by omega⟩)
    (Affine.ofNat 7360 ⟨rfl, by omega⟩) rfl
  have := Affine.toNat_of hm (by omega)
  omega

end Cert.Proof

end
-- ==== Proof.SideKernelIdeal.lean ====
/- The side conditions of the KernelIdeal program's run: no index map reads a table, and the window of 832 rows the body
   loads lies inside the array at every word the first table can hold. -/
module

public import proofs.«01_k».proof.Proof.Gen.KernelIdeal.Frame
public import proofs.«01_k».proof.Proof.Word
public import Idealize.ShloMosaic.Lib.StableHlo.RunRead

@[expose] public section

noncomputable section

namespace Cert.KernelIdeal.Side

open Idealize.ShloMosaic Idealize.ShloMosaic.TcCoe
open Cert.KernelIdeal Cert.KernelIdeal.Gen

variable {F : FTy → Type} [FloatOps F]

/-- The arg-max step keeps one of its operands' indices. -/
theorem step_snd (a b : BitVec 1 × BitVec 32) :
    (reducer_argmax_i1_i32 a b).2 = a.2 ∨ (reducer_argmax_i1_i32 a b).2 = b.2 := by
  dsimp only [reducer_argmax_i1_i32]
  unfold Scalar.select
  split
  · exact Or.inl rfl
  · exact Or.inr rfl

variable (m : (ℓ : Loc nD τ sig) → Buf (Elt F) ℓ)

/-- The first table's words are gathered from an arg-max over an iota. -/
theorem table_shape (c : Dev nD) : ∃ (x : IVec S10x8182 1) (i : IVec S8x1 32),
    V m c main_v19 = Host.gather gather_S10_S8x1_S8_n_0_n_n_0_1_1
      (fun j => (Host.reduce2 reducer_argmax_i1_i32 x (iotaInDim S10x8182 32 1) (constantI S_ 1 0#1) (constantI S_ 32 0#32)
        reducesTo_S10x8182_S10_d1 h_S_ j).2) i := by
  apply Exists.intro
  apply Exists.intro
  unfold V V0
  after_reads_simp
  rfl

/-- So each is at most 8181. -/
theorem table_le (c : Dev nD) (k : S8.Idx) : BitVec.toNat (V m c main_v19 k : BitVec 32) ≤ 8181 := by
  obtain ⟨x, i, h⟩ := table_shape m c
  rw [h]
  refine Cert.Proof.reduce2_snd_of (fun w : BitVec 32 => w.toNat ≤ 8181) _ step_snd _ _ _ _ _ _ (by decide) (fun q => ?_) _
  have hq : (q 1).val < 8182 := (q 1).isLt
  show (BitVec.ofNat 32 (q 1).val).toNat ≤ 8181
  rw [BitVec.toNat_ofNat, Nat.mod_eq_of_lt (by omega)]
  omega

/-- The row offset is the aligned word. -/
theorem off2_eq (w : BitVec 32) : k0_off2 w = ![(Cert.Proof.alignWord w).toNat, 0] := rfl

theorem chk1 (w : BitVec 32) (h : w.toNat ≤ 8181) : k0_chk1 w := by
  intro a
  rw [off2_eq]
  fin_cases a
  · show (Cert.Proof.alignWord w).toNat + 832 ≤ 8192
    rw [Cert.Proof.alignWord_toNat w h]
    omega
  · show 0 + 256 ≤ 256
    omega

theorem ok : Ok m := trivial

theorem hyps : Hyps m (ok m) := Hyps.of fun c t =>
  chk1 _ (table_le m 0 _)

end Cert.KernelIdeal.Side

end
-- ==== Proof.RefRun.lean ====
/- The reference's run: its operations as one straight line, and what that line leaves in the result's buffer and in
   the arguments'. -/
module

public import proofs.«01_k».proof.Proof.Gen.ReferenceIdeal
public import Idealize.ShloMosaic.Lib.StableHlo.RunRead
public import Idealize.ShloMosaic.Lib.Claim

@[expose] public section

noncomputable section

namespace Cert.Proof.Ref

open Idealize.ShloMosaic Idealize.ShloMosaic.TcCoe Idealize.ShloMosaic.StableHlo
open Cert.ReferenceIdeal Cert.ReferenceIdeal.Gen

variable {F : FTy → Type} [FloatOps F]

/-- 6 operations of the reference, in order. -/
abbrev line0 : List (HloOp τ sig (Elt F)) :=
  [ StableHlo.unary main_arg0 main_v0 ((transpose S8x32x32x256 [0, 2, 3, 1] · transposes_S8x256x32x32_S8x32x32x256_0_2_3_1) : (⟨S8x256x32x32, .f32⟩ : BufTy).Contents (Elt F) → (⟨S8x32x32x256, .f32⟩ : BufTy).Contents (Elt F)),
    StableHlo.reshape main_v0 main_v1 (rfl : (.f32 : EltTy) = .f32) shapeCasts_S8x32x32x256_S8192x256,
    StableHlo.unary main_arg2 main_v2 (broadcastInDim S8x1024 ![0] bcast_S8_S8x1024_0 : (⟨S8, .i32⟩ : BufTy).Contents (Elt F) → (⟨S8x1024, .i32⟩ : BufTy).Contents (Elt F)),
    StableHlo.reshape main_v2 main_v3 (rfl : (.i32 : EltTy) = .i32) shapeCasts_S8x1024_S8192,
    StableHlo.nullary main_cst (constant S_ .f32 0xBF000000#32),
    StableHlo.nullary main_cst_0 (constant S_ .f32 0x4117D70A#32) ]
theorem line0_sub : (line0 : List (HloOp τ sig (Elt F))).Forall fun op => op.bufs ⊆ tcRefs τ sig :=
  ⟨unary_bufs_sub .., reshape_bufs_sub .., unary_bufs_sub .., reshape_bufs_sub .., nullary_bufs_sub .., nullary_bufs_sub ..⟩

/-- 21 operations of the reference, in order. -/
abbrev line1 : List (HloOp τ sig (Elt F)) :=
  [ StableHlo.TRef.unary (.of main_cst : StableHlo.TRef sig ⟨S_, .f32⟩) (.of main_call0_v0 : StableHlo.TRef sig ⟨S_, .f32⟩) id,
    StableHlo.TRef.unary (.of main_cst_0 : StableHlo.TRef sig ⟨S_, .f32⟩) (.of main_call0_v1 : StableHlo.TRef sig ⟨S_, .f32⟩) id,
    StableHlo.TRef.binary (.of main_call0_v1 : StableHlo.TRef sig ⟨S_, .f32⟩) (.of main_call0_v0 : StableHlo.TRef sig ⟨S_, .f32⟩) (.of main_call0_v2 : StableHlo.TRef sig ⟨S_, .f32⟩) subf,
    StableHlo.TRef.nullary (.of main_call0_cst : StableHlo.TRef sig ⟨S_, .f32⟩) (constant S_ .f32 0x45FFA800#32),
    StableHlo.TRef.binary (.of main_call0_v2 : StableHlo.TRef sig ⟨S_, .f32⟩) (.of main_call0_cst : StableHlo.TRef sig ⟨S_, .f32⟩) (.of main_call0_v3 : StableHlo.TRef sig ⟨S_, .f32⟩) Host.divf,
    StableHlo.TRef.nullary (.of main_call0_v4 : StableHlo.TRef sig ⟨S8181, .f32⟩) (sitofp .f32 (iotaInDim S8181 32 0)),
    StableHlo.TRef.nullary (.of main_call0_cst_0 : StableHlo.TRef sig ⟨S_, .f32⟩) (constant S_ .f32 0x45FFA800#32),
    StableHlo.TRef.unary (.of main_call0_cst_0 : StableHlo.TRef sig ⟨S_, .f32⟩) (.of main_call0_v5 : StableHlo.TRef sig ⟨S8181, .f32⟩) (broadcastInDim S8181 ![] bcast_S_S8181),
    StableHlo.TRef.binary (.of main_call0_v4 : StableHlo.TRef sig ⟨S8181, .f32⟩) (.of main_call0_v5 : StableHlo.TRef sig ⟨S8181, .f32⟩) (.of main_call0_v6 : StableHlo.TRef sig ⟨S8181, .f32⟩) Host.divf,
    StableHlo.TRef.reshape (.of main_call0_v0 : StableHlo.TRef sig ⟨S_, .f32⟩) (.of main_call0_v7 : StableHlo.TRef sig ⟨S1, .f32⟩) (rfl : (.f32 : EltTy) = .f32) shapeCasts_S_S1,
    StableHlo.TRef.nullary (.of main_call0_cst_1 : StableHlo.TRef sig ⟨S_, .f32⟩) (constant S_ .f32 0x3F800000#32),
    StableHlo.TRef.unary (.of main_call0_cst_1 : StableHlo.TRef sig ⟨S_, .f32⟩) (.of main_call0_v8 : StableHlo.TRef sig ⟨S8181, .f32⟩) (broadcastInDim S8181 ![] bcast_S_S8181),
    StableHlo.TRef.binary (.of main_call0_v8 : StableHlo.TRef sig ⟨S8181, .f32⟩) (.of main_call0_v6 : StableHlo.TRef sig ⟨S8181, .f32⟩) (.of main_call0_v9 : StableHlo.TRef sig ⟨S8181, .f32⟩) subf,
    StableHlo.TRef.unary (.of main_call0_v7 : StableHlo.TRef sig ⟨S1, .f32⟩) (.of main_call0_v10 : StableHlo.TRef sig ⟨S8181, .f32⟩) (broadcastInDim S8181 ![0] bcast_S1_S8181_0),
    StableHlo.TRef.binary (.of main_call0_v10 : StableHlo.TRef sig ⟨S8181, .f32⟩) (.of main_call0_v9 : StableHlo.TRef sig ⟨S8181, .f32⟩) (.of main_call0_v11 : StableHlo.TRef sig ⟨S8181, .f32⟩) mulf,
    StableHlo.TRef.reshape (.of main_call0_v1 : StableHlo.TRef sig ⟨S_, .f32⟩) (.of main_call0_v12 : StableHlo.TRef sig ⟨S1, .f32⟩) (rfl : (.f32 : EltTy) = .f32) shapeCasts_S_S1,
    StableHlo.TRef.unary (.of main_call0_v12 : StableHlo.TRef sig ⟨S1, .f32⟩) (.of main_call0_v13 : StableHlo.TRef sig ⟨S8181, .f32⟩) (broadcastInDim S8181 ![0] bcast_S1_S8181_0),
    StableHlo.TRef.binary (.of main_call0_v13 : StableHlo.TRef sig ⟨S8181, .f32⟩) (.of main_call0_v6 : StableHlo.TRef sig ⟨S8181, .f32⟩) (.of main_call0_v14 : StableHlo.TRef sig ⟨S8181, .f32⟩) mulf,
    StableHlo.TRef.binary (.of main_call0_v11 : StableHlo.TRef sig ⟨S8181, .f32⟩) (.of main_call0_v14 : StableHlo.TRef sig ⟨S8181, .f32⟩) (.of main_call0_v15 : StableHlo.TRef sig ⟨S8181, .f32⟩) addf,
    StableHlo.TRef.unary (.of main_call0_v1 : StableHlo.TRef sig ⟨S_, .f32⟩) (.of main_call0_v16 : StableHlo.TRef sig ⟨S1, .f32⟩) (broadcastInDim S1 ![] bcast_S_S1),
    StableHlo.TRef.binary (.of main_call0_v15 : StableHlo.TRef sig ⟨S8181, .f32⟩) (.of main_call0_v16 : StableHlo.TRef sig ⟨S1, .f32⟩) (.of main_v4 : StableHlo.TRef sig ⟨S8182, .f32⟩) (fun a b => concatenate S8182 0 [⟨S8181, a⟩, ⟨S1, b⟩] concatenates_S8181_S1_S8182_d0) ]
theorem line1_sub : (line1 : List (HloOp τ sig (Elt F))).Forall fun op => op.bufs ⊆ tcRefs τ sig :=
  ⟨unary_bufs_sub .., unary_bufs_sub .., binary_bufs_sub .., nullary_bufs_sub .., binary_bufs_sub .., nullary_bufs_sub .., nullary_bufs_sub .., unary_bufs_sub .., binary_bufs_sub .., reshape_bufs_sub .., nullary_bufs_sub .., unary_bufs_sub .., binary_bufs_sub .., unary_bufs_sub .., binary_bufs_sub .., reshape_bufs_sub .., unary_bufs_sub .., binary_bufs_sub .., binary_bufs_sub .., unary_bufs_sub .., binary_bufs_sub ..⟩

/-- 1 operation of the reference, in order. -/
abbrev line2 : List (HloOp τ sig (Elt F)) :=
  [ StableHlo.TRef.unary (.of main_v4 : StableHlo.TRef sig ⟨S8182, .f32⟩) (.of main_v5 : StableHlo.TRef sig ⟨S8182, .f32⟩) Host.roundeven ]
theorem line2_sub : (line2 : List (HloOp τ sig (Elt F))).Forall fun op => op.bufs ⊆ tcRefs τ sig :=
  unary_bufs_sub ..

/-- 27 operations of the reference, in order. -/
abbrev line3 : List (HloOp τ sig (Elt F)) :=
  [ StableHlo.unary main_v5 main_v6 (broadcastInDim S1x8182 ![1] bcast_S8182_S1x8182_1 : (⟨S8182, .f32⟩ : BufTy).Contents (Elt F) → (⟨S1x8182, .f32⟩ : BufTy).Contents (Elt F)),
    StableHlo.unary main_v3 main_v7 (broadcastInDim S8192x1 ![0] bcast_S8192_S8192x1_0 : (⟨S8192, .i32⟩ : BufTy).Contents (Elt F) → (⟨S8192x1, .i32⟩ : BufTy).Contents (Elt F)),
    StableHlo.unary main_v7 main_v8 (sitofp .f32 : (⟨S8192x1, .i32⟩ : BufTy).Contents (Elt F) → (⟨S8192x1, .f32⟩ : BufTy).Contents (Elt F)),
    StableHlo.unary main_v6 main_v9 (broadcastInDim S8192x8182 ![0, 1] bcast_S1x8182_S8192x8182_0_1 : (⟨S1x8182, .f32⟩ : BufTy).Contents (Elt F) → (⟨S8192x8182, .f32⟩ : BufTy).Contents (Elt F)),
    StableHlo.unary main_v8 main_v10 (broadcastInDim S8192x8182 ![0, 1] bcast_S8192x1_S8192x8182_0_1 : (⟨S8192x1, .f32⟩ : BufTy).Contents (Elt F) → (⟨S8192x8182, .f32⟩ : BufTy).Contents (Elt F)),
    StableHlo.binary main_v9 main_v10 main_v11 (cmpf .une : (⟨S8192x8182, .f32⟩ : BufTy).Contents (Elt F) → (⟨S8192x8182, .f32⟩ : BufTy).Contents (Elt F) → (⟨S8192x8182, .i1⟩ : BufTy).Contents (Elt F)),
    StableHlo.nullary main_c (constantI S_ 1 1#1),
    StableHlo.unary main_c main_v12 (broadcastInDim S8192x10 ![] bcast_S_S8192x10 : (⟨S_, .i1⟩ : BufTy).Contents (Elt F) → (⟨S8192x10, .i1⟩ : BufTy).Contents (Elt F)),
    StableHlo.binary main_v11 main_v12 main_v13 ((fun a b => concatenate S8192x8192 1 [⟨S8192x8182, a⟩, ⟨S8192x10, b⟩] concatenates_S8192x8182_S8192x10_S8192x8192_d1) : (⟨S8192x8182, .i1⟩ : BufTy).Contents (Elt F) → (⟨S8192x10, .i1⟩ : BufTy).Contents (Elt F) → (⟨S8192x8192, .i1⟩ : BufTy).Contents (Elt F)),
    StableHlo.binary main_arg1 main_arg1 main_v14 (mulf : (⟨S8192x256, .f32⟩ : BufTy).Contents (Elt F) → (⟨S8192x256, .f32⟩ : BufTy).Contents (Elt F) → (⟨S8192x256, .f32⟩ : BufTy).Contents (Elt F)),
    StableHlo.nullary main_cst_1 (constant S_ .f32 0x00000000#32),
    StableHlo.binary main_v14 main_cst_1 main_v15 ((fun x v => Host.reduceAdd x v reducesTo_S8192x256_S8192_d1 h_S_) : (⟨S8192x256, .f32⟩ : BufTy).Contents (Elt F) → (⟨S_, .f32⟩ : BufTy).Contents (Elt F) → (⟨S8192, .f32⟩ : BufTy).Contents (Elt F)),
    StableHlo.binary main_v1 main_v1 main_v16 (mulf : (⟨S8192x256, .f32⟩ : BufTy).Contents (Elt F) → (⟨S8192x256, .f32⟩ : BufTy).Contents (Elt F) → (⟨S8192x256, .f32⟩ : BufTy).Contents (Elt F)),
    StableHlo.nullary main_cst_2 (constant S_ .f32 0x00000000#32),
    StableHlo.binary main_v16 main_cst_2 main_v17 ((fun x v => Host.reduceAdd x v reducesTo_S8192x256_S8192_d1 h_S_) : (⟨S8192x256, .f32⟩ : BufTy).Contents (Elt F) → (⟨S_, .f32⟩ : BufTy).Contents (Elt F) → (⟨S8192, .f32⟩ : BufTy).Contents (Elt F)),
    StableHlo.unary main_v17 main_v18 (broadcastInDim S8192x1 ![0] bcast_S8192_S8192x1_0 : (⟨S8192, .f32⟩ : BufTy).Contents (Elt F) → (⟨S8192x1, .f32⟩ : BufTy).Contents (Elt F)),
    StableHlo.unary main_v15 main_v19 (broadcastInDim S1x8192 ![1] bcast_S8192_S1x8192_1 : (⟨S8192, .f32⟩ : BufTy).Contents (Elt F) → (⟨S1x8192, .f32⟩ : BufTy).Contents (Elt F)),
    StableHlo.unary main_v19 main_v20 (broadcastInDim S8192x8192 ![0, 1] bcast_S1x8192_S8192x8192_0_1 : (⟨S1x8192, .f32⟩ : BufTy).Contents (Elt F) → (⟨S8192x8192, .f32⟩ : BufTy).Contents (Elt F)),
    StableHlo.unary main_v18 main_v21 (broadcastInDim S8192x8192 ![0, 1] bcast_S8192x1_S8192x8192_0_1 : (⟨S8192x1, .f32⟩ : BufTy).Contents (Elt F) → (⟨S8192x8192, .f32⟩ : BufTy).Contents (Elt F)),
    StableHlo.binary main_v20 main_v21 main_v22 (addf : (⟨S8192x8192, .f32⟩ : BufTy).Contents (Elt F) → (⟨S8192x8192, .f32⟩ : BufTy).Contents (Elt F) → (⟨S8192x8192, .f32⟩ : BufTy).Contents (Elt F)),
    StableHlo.unary main_arg1 main_v23 ((transpose S256x8192 [1, 0] · transposes_S8192x256_S256x8192_1_0) : (⟨S8192x256, .f32⟩ : BufTy).Contents (Elt F) → (⟨S256x8192, .f32⟩ : BufTy).Contents (Elt F)),
    StableHlo.binary main_v1 main_v23 main_v24 ((fun l r => Host.dotGeneral dot_S8192x256_S256x8192_S8192x8192_1_0_0_1_n_n none l r) : (⟨S8192x256, .f32⟩ : BufTy).Contents (Elt F) → (⟨S256x8192, .f32⟩ : BufTy).Contents (Elt F) → (⟨S8192x8192, .f32⟩ : BufTy).Contents (Elt F)),
    StableHlo.nullary main_cst_3 (constant S_ .f32 0x40000000#32),
    StableHlo.unary main_cst_3 main_v25 (broadcastInDim S8192x8192 ![] bcast_S_S8192x8192 : (⟨S_, .f32⟩ : BufTy).Contents (Elt F) → (⟨S8192x8192, .f32⟩ : BufTy).Contents (Elt F)),
    StableHlo.binary main_v25 main_v24 main_v26 (mulf : (⟨S8192x8192, .f32⟩ : BufTy).Contents (Elt F) → (⟨S8192x8192, .f32⟩ : BufTy).Contents (Elt F) → (⟨S8192x8192, .f32⟩ : BufTy).Contents (Elt F)),
    StableHlo.binary main_v22 main_v26 main_v27 (subf : (⟨S8192x8192, .f32⟩ : BufTy).Contents (Elt F) → (⟨S8192x8192, .f32⟩ : BufTy).Contents (Elt F) → (⟨S8192x8192, .f32⟩ : BufTy).Contents (Elt F)),
    StableHlo.nullary main_cst_4 (constant S_ .f32 0x7F800000#32) ]
theorem line3_sub : (line3 : List (HloOp τ sig (Elt F))).Forall fun op => op.bufs ⊆ tcRefs τ sig :=
  ⟨unary_bufs_sub .., unary_bufs_sub .., unary_bufs_sub .., unary_bufs_sub .., unary_bufs_sub .., binary_bufs_sub .., nullary_bufs_sub .., unary_bufs_sub .., binary_bufs_sub .., binary_bufs_sub .., nullary_bufs_sub .., binary_bufs_sub .., binary_bufs_sub .., nullary_bufs_sub .., binary_bufs_sub .., unary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub ..⟩

/-- 3 operations of the reference, in order. -/
abbrev line4 : List (HloOp τ sig (Elt F)) :=
  [ StableHlo.TRef.unary (.of main_cst_4 : StableHlo.TRef sig ⟨S_, .f32⟩) (.of main_call2_v0 : StableHlo.TRef sig ⟨S_, .f32⟩) id,
    StableHlo.TRef.unary (.of main_call2_v0 : StableHlo.TRef sig ⟨S_, .f32⟩) (.of main_call2_v1 : StableHlo.TRef sig ⟨S8192x8192, .f32⟩) (broadcastInDim S8192x8192 ![] bcast_S_S8192x8192),
    StableHlo.TRef.ternary (.of main_v13 : StableHlo.TRef sig ⟨S8192x8192, .i1⟩) (.of main_call2_v1 : StableHlo.TRef sig ⟨S8192x8192, .f32⟩) (.of main_v27 : StableHlo.TRef sig ⟨S8192x8192, .f32⟩) (.of main_v28 : StableHlo.TRef sig ⟨S8192x8192, .f32⟩) select ]
theorem line4_sub : (line4 : List (HloOp τ sig (Elt F))).Forall fun op => op.bufs ⊆ tcRefs τ sig :=
  ⟨unary_bufs_sub .., unary_bufs_sub .., ternary_bufs_sub ..⟩

/-- 5 operations of the reference, in order. -/
abbrev line5 : List (HloOp τ sig (Elt F)) :=
  [ StableHlo.TRef.nullary (.of main_call3_v0 : StableHlo.TRef sig ⟨S8192x8192, .i32⟩) (iotaInDim S8192x8192 32 1),
    StableHlo.TRef.nullary (.of main_call3_cst : StableHlo.TRef sig ⟨S_, .f32⟩) (constant S_ .f32 0x7F800000#32),
    StableHlo.TRef.nullary (.of main_call3_c : StableHlo.TRef sig ⟨S_, .i32⟩) (constantI S_ 32 0#32),
    StableHlo.TRef.quaternary (.of main_v28 : StableHlo.TRef sig ⟨S8192x8192, .f32⟩) (.of main_call3_v0 : StableHlo.TRef sig ⟨S8192x8192, .i32⟩) (.of main_call3_cst : StableHlo.TRef sig ⟨S_, .f32⟩) (.of main_call3_c : StableHlo.TRef sig ⟨S_, .i32⟩) (.of main_call3_v1_0 : StableHlo.TRef sig ⟨S8192, .f32⟩) (fun x y u v j => (Host.argReduce reducer_argmin_f32_i32 x y u v reducesTo_S8192x8192_S8192_d1 h_S_ j).1),
    StableHlo.TRef.quaternary (.of main_v28 : StableHlo.TRef sig ⟨S8192x8192, .f32⟩) (.of main_call3_v0 : StableHlo.TRef sig ⟨S8192x8192, .i32⟩) (.of main_call3_cst : StableHlo.TRef sig ⟨S_, .f32⟩) (.of main_call3_c : StableHlo.TRef sig ⟨S_, .i32⟩) (.of main_v29 : StableHlo.TRef sig ⟨S8192, .i32⟩) (fun x y u v j => (Host.argReduce reducer_argmin_f32_i32 x y u v reducesTo_S8192x8192_S8192_d1 h_S_ j).2) ]
theorem line5_sub : (line5 : List (HloOp τ sig (Elt F))).Forall fun op => op.bufs ⊆ tcRefs τ sig :=
  ⟨nullary_bufs_sub .., nullary_bufs_sub .., nullary_bufs_sub .., quaternary_bufs_sub .., quaternary_bufs_sub ..⟩

/-- 1 operation of the reference, in order. -/
abbrev line6 : List (HloOp τ sig (Elt F)) :=
  [ StableHlo.reshape main_v29 main_v30 (rfl : (.i32 : EltTy) = .i32) shapeCasts_S8192_S8x32x32 ]
theorem line6_sub : (line6 : List (HloOp τ sig (Elt F))).Forall fun op => op.bufs ⊆ tcRefs τ sig :=
  reshape_bufs_sub ..

theorem line0_fresh : (line0 : List (HloOp τ sig (Elt F))).Forall fun op => op.fresh = ∅ := by
  simp only [List.Forall]; repeat' constructor
theorem line1_fresh : (line1 : List (HloOp τ sig (Elt F))).Forall fun op => op.fresh = ∅ := by
  simp only [List.Forall]; repeat' constructor
theorem line2_fresh : (line2 : List (HloOp τ sig (Elt F))).Forall fun op => op.fresh = ∅ := by
  simp only [List.Forall]; repeat' constructor
theorem line3_fresh : (line3 : List (HloOp τ sig (Elt F))).Forall fun op => op.fresh = ∅ := by
  simp only [List.Forall]; repeat' constructor
theorem line4_fresh : (line4 : List (HloOp τ sig (Elt F))).Forall fun op => op.fresh = ∅ := by
  simp only [List.Forall]; repeat' constructor
theorem line5_fresh : (line5 : List (HloOp τ sig (Elt F))).Forall fun op => op.fresh = ∅ := by
  simp only [List.Forall]; repeat' constructor
theorem line6_fresh : (line6 : List (HloOp τ sig (Elt F))).Forall fun op => op.fresh = ∅ := by
  simp only [List.Forall]; repeat' constructor

/-- The whole line. -/
abbrev ops : List (HloOp τ sig (Elt F)) := line0 ++ (line1 ++ (line2 ++ (line3 ++ (line4 ++ (line5 ++ line6)))))

/-- @main is that straight line. -/
theorem main_eq (c : Dev nD) : main (F := F) c = seq ops := rfl

theorem ops_sub : (ops : List (HloOp τ sig (Elt F))).Forall fun op => op.bufs ⊆ tcRefs τ sig := by
  refine List.forall_iff_forall_mem.mpr fun op h => ?_
  unfold ops at h
  simp only [List.mem_append] at h
  rcases h with h | h | h | h | h | h | h
  · exact List.forall_iff_forall_mem.mp line0_sub op h
  · exact List.forall_iff_forall_mem.mp line1_sub op h
  · exact List.forall_iff_forall_mem.mp line2_sub op h
  · exact List.forall_iff_forall_mem.mp line3_sub op h
  · exact List.forall_iff_forall_mem.mp line4_sub op h
  · exact List.forall_iff_forall_mem.mp line5_sub op h
  · exact List.forall_iff_forall_mem.mp line6_sub op h

theorem ops_fresh : ∀ op ∈ (ops : List (HloOp τ sig (Elt F))), op.fresh = ∅ := by
  intro op h
  unfold ops at h
  simp only [List.mem_append] at h
  rcases h with h | h | h | h | h | h | h
  · exact List.forall_iff_forall_mem.mp line0_fresh op h
  · exact List.forall_iff_forall_mem.mp line1_fresh op h
  · exact List.forall_iff_forall_mem.mp line2_fresh op h
  · exact List.forall_iff_forall_mem.mp line3_fresh op h
  · exact List.forall_iff_forall_mem.mp line4_fresh op h
  · exact List.forall_iff_forall_mem.mp line5_fresh op h
  · exact List.forall_iff_forall_mem.mp line6_fresh op h

theorem scopedRefs_eq : (Finset.univ.filter fun b : Ref sig .tc => b.isScoped) = ∅ := by decide
theorem scopedSems_eq : (Finset.univ.filter fun sm : SemLoc sig => sm.isScoped .tc) = ∅ := by decide

/-! ## What the line computes, a stretch at a time -/

/-- A line in two parts: the second part's contents after the first's. -/
theorem after_join (l₁ l₂ : List (HloOp τ sig (Elt F))) (W : Valuation τ sig (Elt F)) : after (l₁ ++ l₂) W = after l₂ (after l₁ W) := by
  induction l₁ generalizing W with
  | nil => rfl
  | cons op l ih => rw [List.cons_append, after_cons, after_cons, ih]

/-- The 8182 evenly spaced points between two ends. -/
def lin (a b : FVec F S_ .f32) : FVec F S8182 .f32 :=
  concatenate S8182 0
    [⟨S8181, addf
      (mulf (broadcastInDim S8181 ![0] bcast_S1_S8181_0 (shapeCast S1 a shapeCasts_S_S1))
        (subf (broadcastInDim S8181 ![] bcast_S_S8181 (constant S_ .f32 0x3F800000#32))
          (Host.divf (sitofp .f32 (iotaInDim S8181 32 0)) (broadcastInDim S8181 ![] bcast_S_S8181 (constant S_ .f32 0x45FFA800#32)))))
      (mulf (broadcastInDim S8181 ![0] bcast_S1_S8181_0 (shapeCast S1 b shapeCasts_S_S1))
        (Host.divf (sitofp .f32 (iotaInDim S8181 32 0)) (broadcastInDim S8181 ![] bcast_S_S8181 (constant S_ .f32 0x45FFA800#32))))⟩,
     ⟨S1, broadcastInDim S1 ![] bcast_S_S1 b⟩] concatenates_S8181_S1_S8182_d0
/-- The input's pixels as rows of 256 channels. -/
def pix (x : FVec F S8x256x32x32 .f32) : FVec F S8192x256 .f32 :=
  shapeCast S8192x256 (transpose S8x32x32x256 [0, 2, 3, 1] x transposes_S8x256x32x32_S8x32x32x256_0_2_3_1) shapeCasts_S8x32x32x256_S8192x256
/-- Each pixel's label. -/
def lab (y : IVec S8 32) : IVec S8192 32 := shapeCast S8192 (broadcastInDim S8x1024 ![0] bcast_S8_S8x1024_0 y) shapeCasts_S8x1024_S8192
/-- Entry (pixel, code): whether the code is not of the pixel's class. -/
def mask (u : FVec F S8182 .f32) (y : IVec S8192 32) : IVec S8192x8192 1 :=
  concatenate S8192x8192 1
    [⟨S8192x8182, cmpf .une
      (broadcastInDim S8192x8182 ![0, 1] bcast_S1x8182_S8192x8182_0_1 (broadcastInDim S1x8182 ![1] bcast_S8182_S1x8182_1 u))
      (broadcastInDim S8192x8182 ![0, 1] bcast_S8192x1_S8192x8182_0_1 (sitofp .f32 (broadcastInDim S8192x1 ![0] bcast_S8192_S8192x1_0 y)))⟩,
     ⟨S8192x10, broadcastInDim S8192x10 ![] bcast_S_S8192x10 (constantI S_ 1 1#1)⟩] concatenates_S8192x8182_S8192x10_S8192x8192_d1
/-- A matrix's rows' sums of squares. -/
def rowSq (x : FVec F S8192x256 .f32) : FVec F S8192 .f32 :=
  Host.reduceAdd (mulf x x) (constant S_ .f32 0x00000000#32) reducesTo_S8192x256_S8192_d1 h_S_
/-- Entry (pixel, code): the expanded squared distance. -/
def dist (p : FVec F S8192x256 .f32) (w : FVec F S8192x256 .f32) : FVec F S8192x8192 .f32 :=
  subf
    (addf (broadcastInDim S8192x8192 ![0, 1] bcast_S1x8192_S8192x8192_0_1 (broadcastInDim S1x8192 ![1] bcast_S8192_S1x8192_1 (rowSq w)))
      (broadcastInDim S8192x8192 ![0, 1] bcast_S8192x1_S8192x8192_0_1 (broadcastInDim S8192x1 ![0] bcast_S8192_S8192x1_0 (rowSq p))))
    (mulf (broadcastInDim S8192x8192 ![] bcast_S_S8192x8192 (constant S_ .f32 0x40000000#32))
      (Host.dotGeneral dot_S8192x256_S256x8192_S8192x8192_1_0_0_1_n_n none p
        (transpose S256x8192 [1, 0] w transposes_S8192x256_S256x8192_1_0)))
/-- The least entry's column in each row, the first of several. -/
def least (d : FVec F S8192x8192 .f32) : IVec S8192 32 := fun j =>
  (Host.argReduce reducer_argmin_f32_i32 d (iotaInDim S8192x8192 32 1) (constant S_ .f32 0x7F800000#32)
    (constantI S_ 32 0#32) reducesTo_S8192x8192_S8192_d1 h_S_ j).2
/-- The distance, infinite where masked. -/
def masked (k : IVec S8192x8192 1) (d : FVec F S8192x8192 .f32) : FVec F S8192x8192 .f32 :=
  select k (broadcastInDim S8192x8192 ![] bcast_S_S8192x8192 (constant S_ .f32 0x7F800000#32)) d
/-- Each pixel's nearest code of its class. -/
def best (x : FVec F S8x256x32x32 .f32) (w : FVec F S8192x256 .f32) (y : IVec S8 32) : IVec S8192 32 :=
  least (masked (mask (Host.roundeven (lin (constant (F := F) S_ .f32 0xBF000000#32) (constant S_ .f32 0x4117D70A#32))) (lab y)) (dist (pix x) w))

variable (W : Valuation τ sig (Elt F))

theorem r0_v1 : after line0 W (main_v1 : DevRef τ sig) = pix (F := F) (W (main_arg0 : DevRef τ sig)) := by after_reads_simp; rfl
theorem r0_v3 : after line0 W (main_v3 : DevRef τ sig) = lab (W (main_arg2 : DevRef τ sig)) := by after_reads_simp; rfl
theorem r0_cst : after line0 W (main_cst : DevRef τ sig) = constant (F := F) S_ .f32 0xBF000000#32 := by after_reads_simp
theorem r0_cst0 : after line0 W (main_cst_0 : DevRef τ sig) = constant (F := F) S_ .f32 0x4117D70A#32 := by after_reads_simp
theorem r0_arg1 : after line0 W (main_arg1 : DevRef τ sig) = W (main_arg1 : DevRef τ sig) := by after_reads_simp
theorem r1_v4 : after line1 W (main_v4 : DevRef τ sig) = lin (F := F) (W (main_cst : DevRef τ sig)) (W (main_cst_0 : DevRef τ sig)) := by
  after_reads_simp; rfl
theorem r1_v1 : after line1 W (main_v1 : DevRef τ sig) = W (main_v1 : DevRef τ sig) := by after_reads_simp
theorem r1_v3 : after line1 W (main_v3 : DevRef τ sig) = W (main_v3 : DevRef τ sig) := by after_reads_simp
theorem r1_arg1 : after line1 W (main_arg1 : DevRef τ sig) = W (main_arg1 : DevRef τ sig) := by after_reads_simp
theorem r2_v5 : after line2 W (main_v5 : DevRef τ sig) = Host.roundeven (F := F) (s := S8182) (φ := .f32) (W (main_v4 : DevRef τ sig)) := by
  after_reads_simp; rfl
theorem r2_v1 : after line2 W (main_v1 : DevRef τ sig) = W (main_v1 : DevRef τ sig) := by after_reads_simp
theorem r2_v3 : after line2 W (main_v3 : DevRef τ sig) = W (main_v3 : DevRef τ sig) := by after_reads_simp
theorem r2_arg1 : after line2 W (main_arg1 : DevRef τ sig) = W (main_arg1 : DevRef τ sig) := by after_reads_simp
theorem r3_v13 : after line3 W (main_v13 : DevRef τ sig) = mask (F := F) (W (main_v5 : DevRef τ sig)) (W (main_v3 : DevRef τ sig)) := by
  after_reads_simp; unfold mask; rfl
theorem r3_v27 : after line3 W (main_v27 : DevRef τ sig) = dist (F := F) (W (main_v1 : DevRef τ sig)) (W (main_arg1 : DevRef τ sig)) := by
  after_reads_simp; unfold dist rowSq; rfl
theorem r3_cst4 : after line3 W (main_cst_4 : DevRef τ sig) = constant (F := F) S_ .f32 0x7F800000#32 := by after_reads_simp
theorem r4_v28 : after line4 W (main_v28 : DevRef τ sig) = select (s := S8192x8192) (W (main_v13 : DevRef τ sig))
    (broadcastInDim S8192x8192 ![] bcast_S_S8192x8192 (W (main_cst_4 : DevRef τ sig) : FVec F S_ .f32)) (W (main_v27 : DevRef τ sig)) := by
  after_reads_simp; rfl
theorem r5_v29 : after line5 W (main_v29 : DevRef τ sig) = least (F := F) (W (main_v28 : DevRef τ sig)) := by
  after_reads_simp; unfold least; rfl
theorem r6_v30 : after line6 W (main_v30 : DevRef τ sig)
    = shapeCast S8x32x32 (W (main_v29 : DevRef τ sig) : IVec S8192 32) shapeCasts_S8192_S8x32x32 := by
  after_reads_simp; rfl

theorem result_eq : after ops W (main_v30 : DevRef τ sig)
    = shapeCast S8x32x32 (best (F := F) (W (main_arg0 : DevRef τ sig)) (W (main_arg1 : DevRef τ sig)) (W (main_arg2 : DevRef τ sig)))
        shapeCasts_S8192_S8x32x32 := by
  unfold ops
  simp only [after_join]
  rw [r6_v30, r5_v29, r4_v28, r3_v13, r3_v27, r3_cst4, r2_v5, r2_v1, r2_v3, r2_arg1, r1_v4, r1_v1, r1_v3, r1_arg1,
    r0_v1, r0_v3, r0_cst, r0_cst0, r0_arg1]
  unfold best masked
  rfl

theorem arg0_eq : after ops W (main_arg0 : DevRef τ sig) = W (main_arg0 : DevRef τ sig) := by
  after_reads_simp
theorem arg1_eq : after ops W (main_arg1 : DevRef τ sig) = W (main_arg1 : DevRef τ sig) := by
  after_reads_simp
theorem arg2_eq : after ops W (main_arg2 : DevRef τ sig) = W (main_arg2 : DevRef τ sig) := by
  after_reads_simp

/-- The run: the result's buffer holds each pixel's nearest code of its class, the arguments what they held, and every
    counter is zero. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v30)
          = shapeCast S8x32x32 (best (F := F) (m ((c.tc : Thread nD τ).loc main_arg0)) (m ((c.tc : Thread nD τ).loc main_arg1))
              (m ((c.tc : Thread nD τ).loc main_arg2))) shapeCasts_S8192_S8x32x32
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0 :=
  (θ_run defs _ _).mono (fun r h => ⟨fun c => ⟨(h c main_v30).trans (result_eq _), (h c main_arg0).trans (arg0_eq _),
      (h c main_arg1).trans (arg1_eq _), (h c main_arg2).trans (arg2_eq _)⟩,
      Idealize.ShloMosaic.sem_eq_zero_of_no_sems (by decide) r.2⟩)
    (run_seq scopedRefs_eq scopedSems_eq defs main (fun _ => ops) main_eq (fun _ => ops_sub) m ρ (fun _ => ops_fresh))

end Cert.Proof.Ref

end
-- ==== Proof.Frames.lean ====
/- The three programs' frames: every argument array ends as it began and every counter at zero. -/
module

public import proofs.«01_k».proof.Defs
public import proofs.«01_k».proof.Proof.SideKernel
public import proofs.«01_k».proof.Proof.SideKernelIdeal
public import proofs.«01_k».proof.Proof.RefRun

@[expose] public section

noncomputable section

namespace Cert.Proof

open Idealize.ShloMosaic Idealize.SL.Sem

theorem frame_kernel : Cert.quiescent_Kernel := fun m ρ _ =>
  Cert.Kernel.Gen.frame m ρ (Cert.Kernel.Side.ok m) (Cert.Kernel.Side.hyps m)

theorem frame_ideal : Cert.quiescent_KernelIdeal := fun m ρ _ =>
  Cert.KernelIdeal.Gen.frame m ρ (Cert.KernelIdeal.Side.ok m) (Cert.KernelIdeal.Side.hyps m)

theorem frame_reference : Cert.quiescent_ReferenceIdeal := fun m ρ _ =>
  (θ_run Cert.ReferenceIdeal.defs _ _).mono
    (fun _ h => ⟨fun c => ⟨(h.1 c).2.1, (h.1 c).2.2.1, (h.1 c).2.2.2⟩, h.2⟩) (Ref.run_main m ρ)

end Cert.Proof

end
-- ==== Proof.Pick.lean ====
/- The first row of least score, found in two halves: each half's least score and the first row attaining it, the second
   half's row taken only when its score is less. -/
module

public import Mathlib.Data.EReal.Basic
public import Mathlib.Data.Finset.Fold
public import Mathlib.Data.Fintype.Basic

@[expose] public section

namespace Cert.Proof

/-- A fold by a step that keeps the operand of lesser key is the start or one of the values, of least key. -/
theorem fold_least {ι α κ : Type} [LinearOrder κ] (key : α → κ) (op : α → α → α) [Std.Commutative op] [Std.Associative op]
    (hop : ∀ a b, (op a b = a ∨ op a b = b) ∧ key (op a b) ≤ key a ∧ key (op a b) ≤ key b) (b : α) (f : ι → α) (S : Finset ι) :
    (S.fold op b f = b ∨ ∃ i ∈ S, S.fold op b f = f i) ∧ key (S.fold op b f) ≤ key b ∧ ∀ i ∈ S, key (S.fold op b f) ≤ key (f i) := by
  classical
  induction S using Finset.induction_on with
  | empty => exact ⟨Or.inl rfl, le_rfl, fun i hi => absurd hi (Finset.notMem_empty i)⟩
  | insert a S ha ih =>
    rw [Finset.fold_insert ha]
    obtain ⟨h1, h2, h3⟩ := ih
    obtain ⟨h4, h5, h6⟩ := hop (f a) (S.fold op b f)
    refine ⟨?_, h6.trans h2, fun i hi => ?_⟩
    · rcases h4 with h4 | h4
      · exact Or.inr ⟨a, Finset.mem_insert_self a S, h4⟩
      · rcases h1 with h1 | ⟨i, hi, h1⟩
        · exact Or.inl (h4.trans h1)
        · exact Or.inr ⟨i, Finset.mem_insert_of_mem hi, h4.trans h1⟩
    · rcases Finset.mem_insert.mp hi with rfl | hi
      · exact h5
      · exact h6.trans (h3 i hi)

variable {n : ℕ}

/-- What the two reductions of one half give: `v` the least of the half's scores, `i` the least index word among the
    rows attaining it. The other rows score `⊤`. -/
structure Half (A : ℕ) (sel : Fin n → Prop) (sc : Fin n → EReal) (g : Fin n → BitVec 32) (v : EReal) (i : BitVec 32) : Prop where
  /-- the least score is attained, unless it is the start's -/
  val : v = ⊤ ∨ ∃ r, sel r ∧ v = sc r
  /-- and is at most every score -/
  val_le : ∀ r, sel r → v ≤ sc r
  /-- the least index word is one of the attaining rows', when some row attains it -/
  idx : v < ⊤ → ∃ r, sel r ∧ sc r = v ∧ i = g r
  /-- and is at most each of theirs -/
  idx_le : ∀ r, sel r → sc r = v → i.toInt ≤ (g r).toInt

/-- The two reductions written out: rows outside the half at `⊤`, rows not attaining the least at the word 8192. -/
theorem half_of (A : ℕ) (hA : A + n ≤ 8192) (sel : Fin n → Prop) (sc : Fin n → EReal) (g : Fin n → BitVec 32)
    (hg : ∀ r, (g r).toInt = ((A + r.val : ℕ) : ℤ)) (f : Fin n → EReal) (hf : ∀ r, sel r → f r = sc r) (hf' : ∀ r, ¬ sel r → f r = ⊤)
    (v : EReal) (w : Fin n → BitVec 32) (hw : ∀ r, f r = v → w r = g r) (hw' : ∀ r, f r ≠ v → w r = 8192#32) (i : BitVec 32)
    (hv : v = ⊤ ∨ ∃ r, v = f r) (hv' : ∀ r, v ≤ f r) (hi : i = 2147483647#32 ∨ ∃ r, i = w r) (hi' : ∀ r, i.toInt ≤ (w r).toInt) :
    Half A sel sc g v i := by
  have hval : v = ⊤ ∨ ∃ r, sel r ∧ v = sc r := by
    rcases hv with hv | ⟨r, hv⟩
    · exact Or.inl hv
    · by_cases hr : sel r
      · exact Or.inr ⟨r, hr, hv.trans (hf r hr)⟩
      · exact Or.inl (hv.trans (hf' r hr))
  have hile : ∀ r, sel r → sc r = v → i.toInt ≤ (g r).toInt := fun r hr he => by
    rw [← hw r ((hf r hr).trans he)]; exact hi' r
  refine ⟨hval, fun r hr => (hv' r).trans_eq (hf r hr), fun htop => ?_, hile⟩
  obtain ⟨r0, hr0, he0⟩ := hval.resolve_left htop.ne
  have hlt : i.toInt < 8192 := by
    have h1 := hile r0 hr0 he0.symm
    rw [hg] at h1
    have := r0.isLt
    omega
  rcases hi with hi | ⟨r, hi⟩
  · rw [hi] at hlt; exact absurd hlt (by decide)
  · by_cases he : f r = v
    · by_cases hr : sel r
      · exact ⟨r, hr, (hf r hr).symm.trans he, hi.trans (hw r he)⟩
      · rw [hf' r hr] at he; exact absurd he.symm htop.ne
    · rw [hi, hw' r he] at hlt; exact absurd hlt (by decide)

/-- THE FIRST ROW OF LEAST SCORE among the valid ones: the second half's row if its least score is less, the first
    half's otherwise. The first half's rows come before the second's. -/
theorem pick (A : ℕ) (valid left : Fin n → Prop) (hleft : ∀ r r', r' < r → left r → left r') (sc : Fin n → EReal)
    (g : Fin n → BitVec 32) (hg : ∀ r, (g r).toInt = ((A + r.val : ℕ) : ℤ)) (hfin : ∀ r, valid r → sc r < ⊤) (hex : ∃ r, valid r)
    (vl vr : EReal) (il ir : BitVec 32) (hl : Half A (fun r => valid r ∧ left r) sc g vl il)
    (hr : Half A (fun r => valid r ∧ ¬ left r) sc g vr ir) (out : BitVec 32) (ho : vr < vl → out = ir) (ho' : ¬ vr < vl → out = il) :
    ∃ r, valid r ∧ out = g r ∧ ∀ r', valid r' → sc r ≤ sc r' ∧ (r' < r → sc r < sc r') := by
  have first : ∀ (sel : Fin n → Prop) (v : EReal) (i : BitVec 32), Half A sel sc g v i → ∀ r, i = g r → ∀ r', sel r' → r' < r →
      v < sc r' := by
    intro sel v i h r hi r' hr' hlt
    refine lt_of_le_of_ne (h.val_le r' hr') fun he => ?_
    have := h.idx_le r' hr' he.symm
    rw [hi, hg, hg] at this
    have := Fin.lt_def.mp hlt
    omega
  by_cases hc : vr < vl
  · obtain ⟨r, ⟨hv, hnl⟩, hs, hi⟩ := hr.idx (hc.trans_le le_top)
    refine ⟨r, hv, (ho hc).trans hi, fun r' hr' => ?_⟩
    rw [hs]
    by_cases hl' : left r'
    · have := hc.trans_le (hl.val_le r' ⟨hr', hl'⟩)
      exact ⟨this.le, fun _ => this⟩
    · exact ⟨hr.val_le r' ⟨hr', hl'⟩, first _ _ _ hr r hi r' ⟨hr', hl'⟩⟩
  · have hle : vl ≤ vr := not_lt.mp hc
    have htop : vl < ⊤ := by
      obtain ⟨r, hv⟩ := hex
      by_cases hl' : left r
      · exact (hl.val_le r ⟨hv, hl'⟩).trans_lt (hfin r hv)
      · exact (hle.trans (hr.val_le r ⟨hv, hl'⟩)).trans_lt (hfin r hv)
    obtain ⟨r, ⟨hv, hlr⟩, hs, hi⟩ := hl.idx htop
    refine ⟨r, hv, (ho' hc).trans hi, fun r' hr' => ?_⟩
    rw [hs]
    by_cases hl' : left r'
    · exact ⟨hl.val_le r' ⟨hr', hl'⟩, first _ _ _ hl r hi r' ⟨hr', hl'⟩⟩
    · exact ⟨hle.trans (hr.val_le r' ⟨hr', hl'⟩), fun hlt => absurd (hleft r r' hlt hlr) hl'⟩

end Cert.Proof
-- ==== Proof.Payload.lean ====
/- What the body computes from one window of the codebook, over the extended reals: the scores entry by entry, and the
   stored word of each pixel, the index of the first valid row of least score. -/
module

public import proofs.«01_k».proof.Proof.Pick
public import proofs.«01_k».proof.Proof.Gen.KernelIdeal.Skeleton
public import Idealize.ShloMosaic.PureOps.Ideal.Laws
public import Idealize.ShloMosaic.Lib.IdealHost
public import Idealize.ShloMosaic.Lib.Pipeline.Value
public import Idealize.ShloMosaic.Lib.ValueIdx
public import Idealize.ShloMosaic.Lib.ValueLayout
public import Idealize.ShloMosaic.Lib.ValueLayoutCasts

@[expose] public section

noncomputable section

namespace Cert.Proof

open Idealize.ShloMosaic Idealize.ShloMosaic.ValueIdx
open Cert.KernelIdeal Cert.KernelIdeal.Gen

/-- The infinity literal is the top. -/
theorem bits_inf : Ideal.ofBits .f32 0x7F800000#32 = ⊤ := by simp [Ideal.ofBits, Ideal.ieee]

theorem slt_bit (x y : BitVec 32) : IntOp.cmpi .slt x y = 1#1 ↔ x.toInt < y.toInt := by
  show BitVec.ofBool (x.slt y) = 1#1 ↔ _
  rw [← BitVec.slt_iff_toInt_lt]
  cases x.slt y <;> decide

theorem sge_bit (x y : BitVec 32) : IntOp.cmpi .sge x y = 1#1 ↔ y.toInt ≤ x.toInt := by
  show BitVec.ofBool (y.sle x) = 1#1 ↔ _
  rw [← BitVec.sle_iff_toInt_le]
  cases y.sle x <;> decide

theorem and_bit (a b : BitVec 1) : IntOp.andi a b = 1#1 ↔ a = 1#1 ∧ b = 1#1 := by
  revert a b; decide

/-- A column broadcast along the lanes reads its row. -/
theorem column_apply {α : Type} (x : S832x1.Idx → α) (r : Fin 832) (p : Fin 1024) :
    broadcastTo S832x1024 (shapeCast S832x1 x shapeCasts_S832x1_S832x1) broadcasts_S832x1_S832x1024 (ix2 (n0 := 832) (n1 := 1024) r p)
      = x (ix2 (n0 := 832) (n1 := 1) r 0) :=
  (broadcastTo_apply _ _ _ (ix2 (n0 := 832) (n1 := 1) r 0) fun a => match a with | ⟨0, _⟩ => rfl | ⟨1, _⟩ => rfl).trans
    (shapeCast_apply _ _ _ _ rfl)

/-- The code index word of a row of the window. -/
def rowWord (v22 : BitVec 32) (r : Fin 832) : BitVec 32 := v22 + BitVec.ofNat 32 r.val

theorem pay3_apply (v22 : BitVec 32) (r : Fin 832) : k0_pay3 v22 (ix2 (n0 := 832) (n1 := 1) r 0) = rowWord v22 r := by
  unfold k0_pay3
  show v22 + iota .tc S832x1 32 [0] iota_S832x1_d0_w32 (ix2 (n0 := 832) (n1 := 1) r 0) = _
  rw [iota_single_apply]
  rfl

/-- The split the two halves are cut at. -/
def splitWord (v1 : BitVec 32) : BitVec 32 :=
  Scalar.select (Scalar.cmpi .slt v1 2736#32) 2736#32 (Scalar.select (Scalar.cmpi .slt v1 5472#32) 5472#32 8192#32)

variable (v1 v3 v22 : BitVec 32) (x : FVec Ideal S832x1024 .f32)

/-- A row of the window is of the class. -/
def Valid (r : Fin 832) : Prop := v1.toInt ≤ (rowWord v22 r).toInt ∧ (rowWord v22 r).toInt < v3.toInt
/-- A row of the window is before the split. -/
def Left (r : Fin 832) : Prop := (rowWord v22 r).toInt < (splitWord v1).toInt

theorem pay4_bit (r : Fin 832) : k0_pay4 (F := Ideal) v1 v3 v22 (ix2 (n0 := 832) (n1 := 1) r 0) = 1#1 ↔ Valid v1 v3 v22 r := by
  unfold k0_pay4
  show IntOp.andi (IntOp.cmpi .sge (k0_pay3 v22 (ix2 (n0 := 832) (n1 := 1) r 0)) v1)
    (IntOp.cmpi .slt (k0_pay3 v22 (ix2 (n0 := 832) (n1 := 1) r 0)) v3) = 1#1 ↔ _
  rw [and_bit, sge_bit, slt_bit, pay3_apply]
  rfl

theorem pay5_apply (r : Fin 832) (p : Fin 1024) : k0_pay5 v1 v3 v22 x (ix2 (n0 := 832) (n1 := 1024) r p)
    = Scalar.select (IntOp.andi (k0_pay4 (F := Ideal) v1 v3 v22 (ix2 (n0 := 832) (n1 := 1) r 0)) (IntOp.cmpi .slt (rowWord v22 r) (splitWord v1)))
        (x (ix2 (n0 := 832) (n1 := 1024) r p)) ⊤ := by
  rw [← bits_inf, ← pay3_apply]
  unfold k0_pay5
  rw [select_apply, column_apply]
  rfl

theorem pay6_apply (r : Fin 832) (p : Fin 1024) : k0_pay6 v1 v3 v22 x (ix2 (n0 := 832) (n1 := 1024) r p)
    = Scalar.select (IntOp.andi (k0_pay4 (F := Ideal) v1 v3 v22 (ix2 (n0 := 832) (n1 := 1) r 0)) (IntOp.cmpi .sge (rowWord v22 r) (splitWord v1)))
        (x (ix2 (n0 := 832) (n1 := 1024) r p)) ⊤ := by
  rw [← bits_inf, ← pay3_apply]
  unfold k0_pay6
  rw [select_apply, column_apply]
  rfl

/-- A column's source index. -/
theorem lift_column (p : Fin 1024) (k : Fin 832) :
    Shape.Reduces.lift reduces_S832x1024_S1024 (ix1 (n := 1024) p) k = ix2 (n0 := 832) (n1 := 1024) k p :=
  Shape.idx_ext₂ rfl rfl

/-- Each column's least value. -/
def colMin (y : FVec Ideal S832x1024 .f32) : FVec Ideal S1024 .f32 :=
  multiReduction .minimumf [0] S1024 y 0x7F800000#32 reduces_S832x1024_S1024 (.inl rfl) rfl
/-- Each column's least word. -/
def colMinI (y : IVec S832x1024 32) : IVec S1024 32 :=
  multiReductionI .minsi [0] S1024 y 2147483647#32 reduces_S832x1024_S1024 rfl

theorem colMin_eq [DecidableEq S832x1024.Idx] (y : FVec Ideal S832x1024 .f32) (p : Fin 1024) : colMin y (ix1 (n := 1024) p)
    = (Finset.univ : Finset (Fin 832)).fold (FloatOps.minimumf (F := Ideal) (φ := .f32)) (FloatOps.ofBits (F := Ideal) .f32 0x7F800000#32)
        (y ∘ Shape.Reduces.lift reduces_S832x1024_S1024 (ix1 (n := 1024) p)) :=
  (multiReduction_minimumf_eq_fold y _ reduces_S832x1024_S1024 (.inl rfl) rfl _).trans
    (Shape.Reduces.fold_filter_drop_single reduces_S832x1024_S1024 _ _ y _)

theorem colMinI_eq [DecidableEq S832x1024.Idx] (y : IVec S832x1024 32) (p : Fin 1024) : colMinI y (ix1 (n := 1024) p)
    = (Finset.univ : Finset (Fin 832)).fold IntOp.minsi 2147483647#32
        (y ∘ Shape.Reduces.lift reduces_S832x1024_S1024 (ix1 (n := 1024) p)) :=
  (multiReductionI_eq_fold .minsi y _ reduces_S832x1024_S1024 rfl _).trans
    (Shape.Reduces.fold_filter_drop_single reduces_S832x1024_S1024 IntOp.minsi _ y _)

/-- A column's least value is at most each of its entries, and one of them unless it is the top. -/
theorem column_min (y : FVec Ideal S832x1024 .f32) (p : Fin 1024) :
    (colMin y (ix1 (n := 1024) p) = (⊤ : EReal)
      ∨ ∃ r : Fin 832, colMin y (ix1 (n := 1024) p)
          = y (ix2 (n0 := 832) (n1 := 1024) r p))
    ∧ ∀ r : Fin 832, (colMin y (ix1 (n := 1024) p) : EReal)
        ≤ y (ix2 (n0 := 832) (n1 := 1024) r p) := by
  classical
  rw [colMin_eq]
  obtain ⟨h1, -, h3⟩ := fold_least (ι := Fin 832) (α := EReal) id (FloatOps.minimumf (F := Ideal) (φ := .f32))
    (fun a b => ⟨min_choice a b, min_le_left a b, min_le_right a b⟩) (FloatOps.ofBits (F := Ideal) .f32 0x7F800000#32)
    (y ∘ Shape.Reduces.lift reduces_S832x1024_S1024 (ix1 (n := 1024) p)) Finset.univ
  refine ⟨h1.imp (fun h => h.trans bits_inf) fun ⟨i, _, h⟩ => ⟨i, h.trans (congrArg y (lift_column p i))⟩, fun r => ?_⟩
  exact (h3 r (Finset.mem_univ r)).trans_eq (congrArg y (lift_column p r))

/-- A column's least word is at most each of its entries, and one of them unless it is the greatest word. -/
theorem column_minI (y : IVec S832x1024 32) (p : Fin 1024) :
    (colMinI y (ix1 (n := 1024) p) = 2147483647#32
      ∨ ∃ r : Fin 832, colMinI y (ix1 (n := 1024) p)
          = y (ix2 (n0 := 832) (n1 := 1024) r p))
    ∧ ∀ r : Fin 832, (colMinI y (ix1 (n := 1024) p)).toInt
        ≤ (y (ix2 (n0 := 832) (n1 := 1024) r p)).toInt := by
  classical
  rw [colMinI_eq]
  have hop : ∀ a b : BitVec 32, (IntOp.minsi a b = a ∨ IntOp.minsi a b = b) ∧ (IntOp.minsi a b).toInt ≤ a.toInt ∧ (IntOp.minsi a b).toInt ≤ b.toInt := by
    intro a b
    unfold IntOp.minsi
    split <;> rename_i h
    · have := BitVec.slt_iff_toInt_lt.mp h
      exact ⟨Or.inl rfl, le_rfl, by omega⟩
    · have : ¬ a.toInt < b.toInt := fun h' => h (BitVec.slt_iff_toInt_lt.mpr h')
      exact ⟨Or.inr rfl, by omega, le_rfl⟩
  obtain ⟨h1, -, h3⟩ := fold_least (ι := Fin 832) BitVec.toInt IntOp.minsi hop 2147483647#32
    (y ∘ Shape.Reduces.lift reduces_S832x1024_S1024 (ix1 (n := 1024) p)) Finset.univ
  refine ⟨h1.imp id fun ⟨i, _, h⟩ => ⟨i, h.trans (congrArg y (lift_column p i))⟩, fun r => ?_⟩
  exact (h3 r (Finset.mem_univ r)).trans_eq (congrArg (fun z => (y z).toInt) (lift_column p r))

/-- One half's two reductions: `y` the half's scores, `⊤` outside it. -/
theorem half_column (A : ℕ) (hA : A + 832 ≤ 8192) (hrow : ∀ r, (rowWord v22 r).toInt = ((A + r.val : ℕ) : ℤ)) (sel : Fin 832 → Prop)
    (y : FVec Ideal S832x1024 .f32) (p : Fin 1024) (hy : ∀ r, sel r → y (ix2 (n0 := 832) (n1 := 1024) r p) = x (ix2 (n0 := 832) (n1 := 1024) r p))
    (hy' : ∀ r, ¬ sel r → y (ix2 (n0 := 832) (n1 := 1024) r p) = (⊤ : EReal)) (v : FVec Ideal S1x1024 .f32)
    (hv : v = shapeCast S1x1024 (colMin y) shapeCasts_S1024_S1x1024)
    (i : IVec S1024 32)
    (hi : i = colMinI (select (cmpf .oeq y (broadcastTo S832x1024 v broadcasts_S1x1024_S832x1024))
      (broadcastTo S832x1024 (shapeCast S832x1 (k0_pay3 v22) shapeCasts_S832x1_S832x1) broadcasts_S832x1_S832x1024)
      (broadcast S832x1024 8192#32))) :
    Half A sel (fun r => x (ix2 (n0 := 832) (n1 := 1024) r p)) (rowWord v22) (v (ix2 (n0 := 1) (n1 := 1024) 0 p)) (i (ix1 (n := 1024) p)) := by
  have hvp : v (ix2 (n0 := 1) (n1 := 1024) 0 p)
      = colMin y (ix1 (n := 1024) p) := by
    rw [hv]; exact shapeCast_a_1a_apply _ _ _ _
  have hw : ∀ r : Fin 832, select (cmpf .oeq y (broadcastTo S832x1024 v broadcasts_S1x1024_S832x1024))
      (broadcastTo S832x1024 (shapeCast S832x1 (k0_pay3 v22) shapeCasts_S832x1_S832x1) broadcasts_S832x1_S832x1024)
      (broadcast S832x1024 8192#32) (ix2 (n0 := 832) (n1 := 1024) r p)
      = Scalar.select (BitVec.ofBool (decide (y (ix2 (n0 := 832) (n1 := 1024) r p) = v (ix2 (n0 := 1) (n1 := 1024) 0 p)))) (rowWord v22 r) 8192#32 := by
    intro r
    rw [select_apply, column_apply, pay3_apply, cmpf_apply, broadcastTo_1b_ab_apply]
    rfl
  have hc := column_min y p
  rw [← hvp] at hc
  have hd := column_minI (select (cmpf .oeq y (broadcastTo S832x1024 v broadcasts_S1x1024_S832x1024))
      (broadcastTo S832x1024 (shapeCast S832x1 (k0_pay3 v22) shapeCasts_S832x1_S832x1) broadcasts_S832x1_S832x1024)
      (broadcast S832x1024 8192#32)) p
  rw [← hi] at hd
  refine half_of A hA sel _ (rowWord v22) hrow (fun r => y (ix2 (n0 := 832) (n1 := 1024) r p)) hy hy' _
    (fun r => select (cmpf .oeq y (broadcastTo S832x1024 v broadcasts_S1x1024_S832x1024))
      (broadcastTo S832x1024 (shapeCast S832x1 (k0_pay3 v22) shapeCasts_S832x1_S832x1) broadcasts_S832x1_S832x1024)
      (broadcast S832x1024 8192#32) (ix2 (n0 := 832) (n1 := 1024) r p)) ?_ ?_ _ hc.1 hc.2 hd.1 hd.2
  · intro r h
    beta_reduce
    rw [hw, decide_eq_true h]; rfl
  · intro r h
    beta_reduce
    rw [hw, decide_eq_false h]; rfl

/-- THE STORED WORD of pixel `p`: the index word of the first valid row of least score. -/
theorem stored (A : ℕ) (hA : A + 832 ≤ 8192) (h22 : v22.toNat = A) (p : Fin 1024)
    (hfin : ∀ r, Valid v1 v3 v22 r → x (ix2 (n0 := 832) (n1 := 1024) r p) < (⊤ : EReal)) (hex : ∃ r, Valid v1 v3 v22 r) :
    ∃ r, Valid v1 v3 v22 r
      ∧ k0_pay1 (k0_pay8 v1 v3 v22 x) (k0_pay10 v1 v3 v22 x) (k0_pay11 v1 v3 v22 x) (ix3 (n0 := 1) (n1 := 1) (n2 := 1024) 0 0 p) = rowWord v22 r
      ∧ ∀ r', Valid v1 v3 v22 r' → (x (ix2 (n0 := 832) (n1 := 1024) r p) : EReal) ≤ x (ix2 (n0 := 832) (n1 := 1024) r' p)
          ∧ (r' < r → (x (ix2 (n0 := 832) (n1 := 1024) r p) : EReal) < x (ix2 (n0 := 832) (n1 := 1024) r' p)) := by
  have hrow : ∀ r, (rowWord v22 r).toInt = ((A + r.val : ℕ) : ℤ) := by
    intro r
    have hr := r.isLt
    have hn : (rowWord v22 r).toNat = A + r.val := by
      unfold rowWord
      rw [BitVec.toNat_add, BitVec.toNat_ofNat, h22]
      omega
    rw [BitVec.toInt_eq_toNat_of_lt (by omega), hn]
  have hsel : ∀ (c d : BitVec 1) (a b : EReal), (c = 1#1 ∧ d = 1#1 → Scalar.select (IntOp.andi c d) a b = a)
      ∧ (¬ (c = 1#1 ∧ d = 1#1) → Scalar.select (IntOp.andi c d) a b = b) := by
    intro c d a b
    rw [← and_bit]
    exact ⟨fun h => by rw [h]; rfl, fun h => by rw [eq_zero_of_ne_one h]; rfl⟩
  have hl : Half A (fun r => Valid v1 v3 v22 r ∧ Left v1 v22 r) (fun r => x (ix2 (n0 := 832) (n1 := 1024) r p)) (rowWord v22)
      (k0_pay7 v1 v3 v22 x (ix2 (n0 := 1) (n1 := 1024) 0 p)) (k0_pay8 v1 v3 v22 x (ix1 (n := 1024) p)) := by
    refine half_column v22 x A hA hrow _ (k0_pay5 v1 v3 v22 x) p (fun r h => ?_) (fun r h => ?_) _ rfl _ rfl
    · rw [pay5_apply]
      exact (hsel _ _ _ _).1 ⟨(pay4_bit v1 v3 v22 r).mpr h.1, (slt_bit _ _).mpr h.2⟩
    · rw [pay5_apply]
      exact (hsel _ _ _ _).2 fun h' => h ⟨(pay4_bit v1 v3 v22 r).mp h'.1, (slt_bit _ _).mp h'.2⟩
  have hr : Half A (fun r => Valid v1 v3 v22 r ∧ ¬ Left v1 v22 r) (fun r => x (ix2 (n0 := 832) (n1 := 1024) r p)) (rowWord v22)
      (k0_pay9 v1 v3 v22 x (ix2 (n0 := 1) (n1 := 1024) 0 p)) (k0_pay10 v1 v3 v22 x (ix1 (n := 1024) p)) := by
    refine half_column v22 x A hA hrow _ (k0_pay6 v1 v3 v22 x) p (fun r h => ?_) (fun r h => ?_) _ rfl _ rfl
    · rw [pay6_apply]
      exact (hsel _ _ _ _).1 ⟨(pay4_bit v1 v3 v22 r).mpr h.1, (sge_bit _ _).mpr (not_lt.mp h.2)⟩
    · rw [pay6_apply]
      exact (hsel _ _ _ _).2 fun h' => h ⟨(pay4_bit v1 v3 v22 r).mp h'.1, not_lt.mpr ((sge_bit _ _).mp h'.2)⟩
  have hout : k0_pay1 (k0_pay8 v1 v3 v22 x) (k0_pay10 v1 v3 v22 x) (k0_pay11 v1 v3 v22 x) (ix3 (n0 := 1) (n1 := 1) (n2 := 1024) 0 0 p)
      = Scalar.select (BitVec.ofBool (decide ((k0_pay9 v1 v3 v22 x (ix2 (n0 := 1) (n1 := 1024) 0 p) : EReal) < k0_pay7 v1 v3 v22 x (ix2 (n0 := 1) (n1 := 1024) 0 p))))
          (k0_pay10 v1 v3 v22 x (ix1 (n := 1024) p)) (k0_pay8 v1 v3 v22 x (ix1 (n := 1024) p)) := by
    unfold k0_pay1
    refine (shapeCast_apply _ _ _ (ix1 (n := 1024) p) (by
      rw [Shape.rowMajor_val_three, Shape.rowMajor_val_one]
      show p.val = (0 * 1 + 0) * 1024 + p.val
      omega)).trans ?_
    rw [select_apply]
    refine congrArg (fun b => Scalar.select b (k0_pay10 v1 v3 v22 x (ix1 (n := 1024) p)) (k0_pay8 v1 v3 v22 x (ix1 (n := 1024) p))) ?_
    refine (shapeCast_1a_a_apply _ _ _).trans ?_
    unfold k0_pay11
    rw [cmpf_apply, extf_apply, truncf_apply]
    generalize k0_pay9 v1 v3 v22 x (ix2 (n0 := 1) (n1 := 1024) 0 p) = a
    generalize k0_pay7 v1 v3 v22 x (ix2 (n0 := 1) (n1 := 1024) 0 p) = b
    rfl
  refine pick A (Valid v1 v3 v22) (Left v1 v22) (fun r r' hlt h => ?_) _ (rowWord v22) hrow hfin hex _ _ _ _ hl hr _ (fun h => ?_) (fun h => ?_)
  · unfold Left at h ⊢
    rw [hrow] at h ⊢
    have := Fin.lt_def.mp hlt
    omega
  · rw [hout, decide_eq_true h]; rfl
  · rw [hout, decide_eq_false h]; rfl

end Cert.Proof

end
-- ==== Proof.Host.lean ====
/- What the kernel's host lines leave in the buffers the region reads: the two prefetched tables and the two arrays
   computed from the input. Each is the operations' term over the launch memory. -/
module

public import proofs.«01_k».proof.Proof.Gen.KernelIdeal.Frame
public import Idealize.ShloMosaic.Lib.StableHlo.RunRead

@[expose] public section

noncomputable section

namespace Cert.Proof

open Idealize.ShloMosaic Idealize.ShloMosaic.TcCoe
open Cert.KernelIdeal Cert.KernelIdeal.Gen

variable {F : FTy → Type} [FloatOps F]

/-- The first point's value of the even spacing. -/
def linA : FVec F S_ .f32 := constant S_ .f32 0xBF000000#32
/-- Its last point's value. -/
def linB : FVec F S_ .f32 := constant S_ .f32 0x4117D70A#32
/-- The fraction `i / 8181` of each of the first 8181 points. -/
def linT : FVec F S8181 .f32 :=
  Host.divf (sitofp .f32 (iotaInDim S8181 32 0)) (broadcastInDim S8181 ![] bcast_S_S8181 (constant S_ .f32 0x45FFA800#32))
/-- The first 8181 points: each end's value weighted by its fraction. -/
def linHead : FVec F S8181 .f32 :=
  addf (mulf (broadcastInDim S8181 ![0] bcast_S1_S8181_0 (shapeCast S1 linA shapeCasts_S_S1))
      (subf (broadcastInDim S8181 ![] bcast_S_S8181 (constant S_ .f32 0x3F800000#32)) linT))
    (mulf (broadcastInDim S8181 ![0] bcast_S1_S8181_0 (shapeCast S1 linB shapeCasts_S_S1)) linT)
/-- The 8182 evenly spaced points, the last one the end's value itself. -/
def lin : FVec F S8182 .f32 :=
  concatenate S8182 0 [⟨S8181, linHead⟩, ⟨S1, broadcastInDim S1 ![] bcast_S_S1 linB⟩] concatenates_S8181_S1_S8182_d0
/-- The class each code index is assigned to: its point rounded to the nearest integer. -/
def uni : FVec F S8182 .f32 := Host.roundeven lin

/-- Entry (class, index): whether the index is assigned to the class. -/
def hits : IVec S10x8182 1 :=
  cmpf .oeq (broadcastInDim S10x8182 ![0, 1] bcast_S1x8182_S10x8182_0_1 (broadcastInDim S1x8182 ![1] bcast_S8182_S1x8182_1 (uni (F := F))))
    (broadcastInDim S10x8182 ![0, 1] bcast_S10x1_S10x8182_0_1 (broadcastInDim S10x1 ![0] bcast_S10_S10x1_0 (sitofp .f32 (iotaInDim S10 32 0))))
/-- The number of code indices of each class. -/
def counts : IVec S10 32 :=
  Host.reduce IntOp.addi (extui 32 (hits (F := F)) natLt_1_32) (constantI S_ 32 0#32) reducesTo_S10x8182_S10_d1 h_S_
/-- The first code index of each class. -/
def firsts : IVec S10 32 := fun j =>
  (Host.reduce2 reducer_argmax_i1_i32 (hits (F := F)) (iotaInDim S10x8182 32 1) (constantI S_ 1 0#1) (constantI S_ 32 0#32)
    reducesTo_S10x8182_S10_d1 h_S_ j).2
/-- The labels with a negative one counted from the end, as a column of start indices. -/
def rowIdx (y : IVec S8 32) : IVec S8x1 32 :=
  broadcastInDim S8x1 ![0] bcast_S8_S8x1_0
    (select (cmpi .slt y (broadcastInDim S8 ![] bcast_S_S8 (constantI S_ 32 0#32)))
      (addi y (broadcastInDim S8 ![] bcast_S_S8 (constantI S_ 32 10#32))) y)
/-- The first code index of each image's class. -/
def starts (y : IVec S8 32) : IVec S8 32 := Host.gather gather_S10_S8x1_S8_n_0_n_n_0_1_1 (firsts (F := F)) (rowIdx y)
/-- One past the last code index of each image's class. -/
def stops (y : IVec S8 32) : IVec S8 32 :=
  Host.gather gather_S10_S8x1_S8_n_0_n_n_0_1_1 (addi (firsts (F := F)) (counts (F := F))) (rowIdx y)
/-- The input's pixels as rows of 256 channels. -/
def pix (x : FVec F S8x256x32x32 .f32) : FVec F S8192x256 .f32 :=
  shapeCast S8192x256 (transpose S8x32x32x256 [0, 2, 3, 1] x transposes_S8x256x32x32_S8x32x32x256_0_2_3_1) shapeCasts_S8x32x32x256_S8192x256
/-- Each pixel's sum of squares, one row of 1024 per image. -/
def sqs (x : FVec F S8x256x32x32 .f32) : FVec F S8x1x1024 .f32 :=
  shapeCast S8x1x1024 (Host.reduceAdd (mulf (pix x) (pix x)) (constant S_ .f32 0x00000000#32) reducesTo_S8192x256_S8192_d1 h_S_)
    shapeCasts_S8192_S8x1x1024

variable (m : (ℓ : Loc nD τ sig) → Buf (Elt F) ℓ)

theorem V_starts (c : Dev nD) : V m c main_v19 = starts (F := F) (m ((c : Thread nD τ).loc main_arg2)) := by
  unfold V V0
  after_reads_simp
  rfl

set_option maxHeartbeats 2000000 in
theorem V_stops (c : Dev nD) : V m c main_v26 = stops (F := F) (m ((c : Thread nD τ).loc main_arg2)) := by
  unfold V V0
  after_reads_simp
  rfl

set_option maxHeartbeats 2000000 in
theorem V_sqs (c : Dev nD) : V m c main_v31 = sqs (m ((c : Thread nD τ).loc main_arg0)) := by
  unfold V V0
  after_reads_simp
  rfl

theorem V_maps (c : Dev nD) : V m c main_v32
    = shapeCast S8x256x1024 (m ((c : Thread nD τ).loc main_arg0)) shapeCasts_S8x256x32x32_S8x256x1024 := by
  unfold V V0
  after_reads_simp
  rfl

end Cert.Proof

end
-- ==== Proof.Points.lean ====
/- The class each code index is assigned to, over the extended reals: index `i` of 8182 is assigned to class `i / 819`. -/
module

public import proofs.«01_k».proof.Proof.Host
public import Idealize.ShloMosaic.PureOps.Ideal.Laws
public import Idealize.ShloMosaic.Lib.IdealHost
public import Idealize.ShloMosaic.Lib.Pipeline.Value

@[expose] public section

noncomputable section

namespace Cert.Proof

open Idealize.ShloMosaic
open Cert.KernelIdeal Cert.KernelIdeal.Gen

/-- A real nearer to `c` than one half rounds to `c`. -/
theorem roundHalfEven_eq (r : ℝ) (c : ℤ) (h1 : (c : ℝ) - 1 / 2 < r) (h2 : r < c + 1 / 2) : Ideal.roundHalfEven r = c := by
  unfold Ideal.roundHalfEven
  rcases le_or_gt (c : ℝ) r with h | h
  · have hf : ⌊r⌋ = c := Int.floor_eq_iff.mpr ⟨h, by linarith⟩
    simp only [hf]
    rw [if_pos (by linarith)]
  · have hf : ⌊r⌋ = c - 1 := Int.floor_eq_iff.mpr ⟨by push_cast; linarith, by push_cast; linarith⟩
    simp only [hf]
    rw [if_neg (by push_cast; linarith), if_pos (by push_cast; linarith)]
    ring

/-- One half below zero rounds to zero, the even one of its two neighbours. -/
theorem roundHalfEven_neg_half : Ideal.roundHalfEven (-(1 / 2)) = 0 := by
  have hf : ⌊(-(1 / 2) : ℝ)⌋ = -1 := Int.floor_eq_iff.mpr ⟨by norm_num, by norm_num⟩
  unfold Ideal.roundHalfEven
  simp only [hf]
  rw [if_neg (by norm_num), if_neg (by norm_num), if_neg (by decide)]
  norm_num

theorem bits_neg_half : Ideal.ofBits .f32 0xBF000000#32 = ((-(1 / 2) : ℝ) : EReal) := by
  simp [Ideal.ofBits, Ideal.ieee, -EReal.coe_mul, -EReal.coe_neg]; norm_num

theorem bits_end : Ideal.ofBits .f32 0x4117D70A#32 = ((9950986 / 1048576 : ℝ) : EReal) := by
  simp [Ideal.ofBits, Ideal.ieee, -EReal.coe_mul, -EReal.coe_neg]; norm_num

theorem bits_8181 : Ideal.ofBits .f32 0x45FFA800#32 = ((8181 : ℝ) : EReal) := by
  simp [Ideal.ofBits, Ideal.ieee, -EReal.coe_mul, -EReal.coe_neg]; norm_num

/-- The word of a natural number below 2³¹ converts to that number. -/
theorem sitofp_ofNat (n : ℕ) (h : n < 2 ^ 31) : (((BitVec.ofNat 32 n).toInt : ℝ) : EReal) = ((n : ℝ) : EReal) := by
  rw [BitVec.toInt_eq_toNat_of_lt (by rw [BitVec.toNat_ofNat, Nat.mod_eq_of_lt (by omega)]; omega), BitVec.toNat_ofNat,
    Nat.mod_eq_of_lt (by omega)]
  push_cast
  rfl

theorem linT_apply (i : S8181.Idx) : linT (F := Ideal) i = (((i 0).val / 8181 : ℝ) : EReal) := by
  have h : (i 0).val < 8181 := (i 0).isLt
  show Ideal.div (((BitVec.ofNat 32 (i 0).val).toInt : ℝ) : EReal) (Ideal.ofBits .f32 0x45FFA800#32) = _
  rw [bits_8181, sitofp_ofNat _ (by omega)]
  unfold Ideal.div
  rw [if_neg (by norm_cast), ← EReal.coe_inv, ← EReal.coe_mul]
  rfl

theorem linHead_apply (i : S8181.Idx) : linHead (F := Ideal) i
    = ((-(1 / 2) * (1 - (i 0).val / 8181) + 9950986 / 1048576 * ((i 0).val / 8181) : ℝ) : EReal) := by
  show Ideal.ofBits .f32 0xBF000000#32 * (Ideal.ofBits .f32 0x3F800000#32 - linT (F := Ideal) i)
    + Ideal.ofBits .f32 0x4117D70A#32 * linT (F := Ideal) i = _
  rw [linT_apply, bits_neg_half, bits_end, Ideal.ofBits_one_f32, show (1 : EReal) = ((1 : ℝ) : EReal) by norm_cast]
  norm_cast

theorem lin_left (i : S8182.Idx) (h : (i 0).val < 8181) : lin (F := Ideal) i
    = ((-(1 / 2) * (1 - (i 0).val / 8181) + 9950986 / 1048576 * ((i 0).val / 8181) : ℝ) : EReal) := by
  have h' := linHead_apply (fun a => match a with | ⟨0, _⟩ => ⟨(i 0).val, h⟩)
  refine Eq.trans ?_ h'
  unfold lin
  refine concatenate_pair_apply_left (s₁ := S8181) (s₂ := S1) 0 _ _ _ i rfl _ ?_
  intro b
  fin_cases b
  rfl

theorem lin_right (i : S8182.Idx) (h : (i 0).val = 8181) : lin (F := Ideal) i = ((9950986 / 1048576 : ℝ) : EReal) := by
  rw [← bits_end]
  unfold lin
  refine (concatenate_pair_apply_right (s₁ := S8181) (s₂ := S1) 0 _ _ _ i rfl rfl (fun a => match a with | ⟨0, _⟩ => ⟨0, Nat.one_pos⟩) ?_ ?_).trans rfl
  · intro b hb
    fin_cases b
    exact absurd rfl hb
  · show 0 + 8181 = (i 0).val
    omega

/-- THE CLASS OF A CODE INDEX. -/
theorem uni_apply (i : S8182.Idx) : uni (F := Ideal) i = ((((i 0).val / 819 : ℕ) : ℝ) : EReal) := by
  have hi : (i 0).val < 8182 := (i 0).isLt
  show Ideal.liftRound Ideal.roundHalfEven (lin (F := Ideal) i) = _
  have key : ∀ r : ℝ, lin (F := Ideal) i = (r : EReal) → Ideal.roundHalfEven r = (((i 0).val / 819 : ℕ) : ℤ) →
      Ideal.liftRound Ideal.roundHalfEven (lin (F := Ideal) i) = ((((i 0).val / 819 : ℕ) : ℝ) : EReal) := by
    intro r h1 h2
    rw [h1, Ideal.liftRound_coe, h2]
    norm_cast
  generalize hn : (i 0).val = n at *
  rcases Nat.lt_or_ge n 8181 with h | h
  · refine key _ (by rw [lin_left i (by omega), hn]) ?_
    rcases Nat.eq_zero_or_pos n with h0 | h0
    · subst h0
      norm_num
      have := roundHalfEven_neg_half
      norm_num at this
      exact this
    · have hd : 819 * (n / 819) + n % 819 = n := Nat.div_add_mod n 819
      have hm : n % 819 ≤ 818 := by omega
      have hc : n / 819 ≤ 9 := by omega
      generalize n / 819 = c at *
      generalize n % 819 = d at *
      have hd' : (n : ℝ) = 819 * c + d := by exact_mod_cast hd.symm
      have hm' : (d : ℝ) ≤ 818 := by exact_mod_cast hm
      have hc' : (c : ℝ) ≤ 9 := by exact_mod_cast hc
      have h0' : (1 : ℝ) ≤ n := by exact_mod_cast h0
      have hd0 : (0 : ℝ) ≤ d := Nat.cast_nonneg d
      have hc0 : (0 : ℝ) ≤ c := Nat.cast_nonneg c
      refine roundHalfEven_eq _ _ ?_ ?_
      · push_cast
        rw [hd'] at h0' ⊢
        linarith
      · push_cast
        rw [hd']
        linarith
  · have : n = 8181 := by omega
    subst this
    refine key _ (lin_right i hn) ?_
    refine roundHalfEven_eq _ _ ?_ ?_ <;> norm_num

end Cert.Proof

end
-- ==== Proof.Classes.lean ====
/- The tables of the classes over the extended reals: the first code index of class `c` is `819 · c`, one past its last
   `min (819 · (c + 1)) 8182`, and what the two tables the region reads hold for a label from 0 to 9. -/
module

public import proofs.«01_k».proof.Proof.Points
public import proofs.«01_k».proof.Proof.Fold
public import Idealize.ShloMosaic.Lib.ValueIdx
public import Mathlib.Data.Prod.Lex

@[expose] public section

noncomputable section

namespace Cert.Proof

open Idealize.ShloMosaic Idealize.ShloMosaic.ValueIdx
open Cert.KernelIdeal Cert.KernelIdeal.Gen

/-- One past the last code index of a class. -/
def classEnd (c : ℕ) : ℕ := min (819 * (c + 1)) 8182

theorem hits_apply (i : S10x8182.Idx) : hits (F := Ideal) i = BitVec.ofBool (decide ((i 1).val / 819 = (i 0).val)) := by
  have h0 : (i 0).val < 10 := (i 0).isLt
  have hl : broadcastInDim S10x8182 ![0, 1] bcast_S1x8182_S10x8182_0_1 (broadcastInDim S1x8182 ![1] bcast_S8182_S1x8182_1 (uni (F := Ideal))) i
      = ((((i 1).val / 819 : ℕ) : ℝ) : EReal) := (uni_apply _).trans rfl
  have hr : broadcastInDim S10x8182 ![0, 1] bcast_S10x1_S10x8182_0_1
      (broadcastInDim S10x1 ![0] bcast_S10_S10x1_0 (sitofp (F := Ideal) .f32 (iotaInDim S10 32 0))) i = (((i 0).val : ℝ) : EReal) :=
    sitofp_ofNat (i 0).val (by omega)
  show Ideal.cmp .oeq (broadcastInDim S10x8182 ![0, 1] bcast_S1x8182_S10x8182_0_1 (broadcastInDim S1x8182 ![1] bcast_S8182_S1x8182_1 (uni (F := Ideal))) i)
    (broadcastInDim S10x8182 ![0, 1] bcast_S10x1_S10x8182_0_1
      (broadcastInDim S10x1 ![0] bcast_S10_S10x1_0 (sitofp (F := Ideal) .f32 (iotaInDim S10 32 0))) i) = _
  rw [hl, hr]
  show BitVec.ofBool (decide _) = _
  congr 1
  refine decide_eq_decide.mpr ?_
  norm_cast

/-- The order the arg-max keeps the least of: a set bit first, then the lesser index. -/
def hitKey (a : BitVec 1 × BitVec 32) : ℕ ×ₗ ℤ := toLex (1 - a.1.toNat, a.2.toInt)

theorem reducer_argmax_least (a b : BitVec 1 × BitVec 32) :
    (reducer_argmax_i1_i32 a b = a ∨ reducer_argmax_i1_i32 a b = b)
    ∧ hitKey (reducer_argmax_i1_i32 a b) ≤ hitKey a ∧ hitKey (reducer_argmax_i1_i32 a b) ≤ hitKey b := by
  obtain ⟨p, i⟩ := a
  obtain ⟨q, j⟩ := b
  have hp : p = 0#1 ∨ p = 1#1 := by revert p; decide
  have hq : q = 0#1 ∨ q = 1#1 := by revert q; decide
  have hs : ∀ c : BitVec 1, c = 0#1 ∨ c = 1#1 := by decide
  have hlt : (IntOp.cmpi .slt i j = 1#1 ∧ i.toInt < j.toInt) ∨ (IntOp.cmpi .slt i j = 0#1 ∧ j.toInt ≤ i.toInt) := by
    show (BitVec.ofBool (i.slt j) = 1#1 ∧ _) ∨ (BitVec.ofBool (i.slt j) = 0#1 ∧ _)
    rcases lt_or_ge i.toInt j.toInt with h | h
    · left; rw [BitVec.slt_iff_toInt_lt.mpr h]; exact ⟨rfl, h⟩
    · right
      have : i.slt j = false := by
        rw [Bool.eq_false_iff]; intro h'; exact absurd (BitVec.slt_iff_toInt_lt.mp h') (by omega)
      rw [this]; exact ⟨rfl, h⟩
  have key : reducer_argmax_i1_i32 (p, i) (q, j)
      = (Scalar.select (IntOp.ori (IntOp.cmpi .ugt p q) (IntOp.cmpi .ne p p)) p q,
         Scalar.select (IntOp.ori (IntOp.ori (IntOp.cmpi .ugt p q) (IntOp.cmpi .ne p p)) (IntOp.andi (IntOp.cmpi .eq p q) (IntOp.cmpi .slt i j))) i j) := rfl
  rw [key]
  unfold hitKey
  rcases hp with rfl | rfl <;> rcases hq with rfl | rfl <;> rcases hlt with ⟨h1, h2⟩ | ⟨h1, h2⟩ <;> rw [h1] <;>
    simp only [IntOp.ori, IntOp.andi, IntOp.cmpi, Scalar.select, Prod.Lex.toLex_le_toLex] <;> simp <;> omega

/-- THE FIRST CODE INDEX OF A CLASS. -/
theorem firsts_apply (j : S10.Idx) : (firsts (F := Ideal) j).toNat = 819 * (j 0).val := by
  have hj : (j 0).val < 10 := (j 0).isLt
  unfold firsts
  obtain ⟨h1, h2⟩ := reduce2_least hitKey reducer_argmax_i1_i32 reducer_argmax_least (hits (F := Ideal)) (iotaInDim S10x8182 32 1)
    (constantI S_ 1 0#1) (constantI S_ 32 0#32) reducesTo_S10x8182_S10_d1 h_S_ j
  have hd : ∀ i : S10x8182.Idx, reducesTo_S10x8182_S10_d1.drop i = j → (i 0).val = (j 0).val := fun i h => by
    rw [← h]; rfl
  have hfirst := h2 (ix2 (n0 := 10) (n1 := 8182) (j 0) ⟨819 * (j 0).val, by omega⟩) (by
    funext b; obtain rfl : b = 0 := Subsingleton.elim _ _; exact Fin.ext rfl)
  have hint : ∀ n : ℕ, n < 8182 → (BitVec.ofNat 32 n).toInt = n := fun n h => by
    rw [BitVec.toInt_eq_toNat_of_lt (by rw [BitVec.toNat_ofNat, Nat.mod_eq_of_lt (by omega)]; omega), BitVec.toNat_ofNat,
      Nat.mod_eq_of_lt (by omega)]
  have hhit : hits (F := Ideal) (ix2 (n0 := 10) (n1 := 8182) (j 0) ⟨819 * (j 0).val, by omega⟩) = 1#1 := by
    rw [hits_apply]
    have : 819 * (j 0).val / 819 = (j 0).val := Nat.mul_div_cancel_left _ (by omega)
    show BitVec.ofBool (decide (819 * (j 0).val / 819 = (j 0).val)) = _
    rw [decide_eq_true this]; rfl
  have hk : hitKey (hits (F := Ideal) (ix2 (n0 := 10) (n1 := 8182) (j 0) ⟨819 * (j 0).val, by omega⟩),
      iotaInDim S10x8182 32 1 (ix2 (n0 := 10) (n1 := 8182) (j 0) ⟨819 * (j 0).val, by omega⟩)) = toLex (0, ((819 * (j 0).val : ℕ) : ℤ)) := by
    unfold hitKey
    rw [hhit]
    exact congrArg (fun z => toLex (0, z)) (hint (819 * (j 0).val) (by omega))
  rw [hk] at hfirst
  rcases h1 with h1 | ⟨i, hi, h1⟩
  · rw [h1] at hfirst
    exact absurd (Prod.Lex.toLex_le_toLex.mp hfirst) (by simp [constantI])
  · rw [h1] at hfirst ⊢
    have hi1 : (i 1).val < 8182 := (i 1).isLt
    have hio : iotaInDim S10x8182 32 1 i = BitVec.ofNat 32 (i 1).val := rfl
    rw [hio] at hfirst ⊢
    rw [hits_apply] at hfirst
    have h3 := Prod.Lex.toLex_le_toLex.mp hfirst
    simp only at h3
    rw [hint _ hi1] at h3
    show (BitVec.ofNat 32 (i 1).val).toNat = _
    rw [BitVec.toNat_ofNat, Nat.mod_eq_of_lt (by omega)]
    by_cases hc : (i 1).val / 819 = (i 0).val
    · rw [hd i hi] at hc
      rw [decide_eq_true (by rw [hd i hi]; exact hc)] at h3
      simp at h3
      omega
    · rw [decide_eq_false hc] at h3
      simp at h3

/-- A sum of words is the word of the sum of their values. -/
theorem fold_addi_ofNat {ι : Type} (S : Finset ι) (f : ι → BitVec 32) :
    S.fold IntOp.addi 0#32 f = BitVec.ofNat 32 (∑ i ∈ S, (f i).toNat) := by
  classical
  induction S using Finset.induction_on with
  | empty => rfl
  | insert a S ha ih =>
    rw [Finset.fold_insert ha, ih, Finset.sum_insert ha, BitVec.ofNat_add, BitVec.ofNat_toNat, BitVec.setWidth_eq]
    rfl

/-- THE NUMBER OF CODE INDICES OF A CLASS. -/
theorem counts_apply (j : S10.Idx) : counts (F := Ideal) j = BitVec.ofNat 32 (classEnd (j 0).val - 819 * (j 0).val) := by
  have hj : (j 0).val < 10 := (j 0).isLt
  unfold counts
  rw [Host.reduce_eq_fold]
  refine (fold_addi_ofNat _ _).trans (congrArg _ ?_)
  have hv : ∀ i : S10x8182.Idx, (extui 32 (hits (F := Ideal)) natLt_1_32 i).toNat = if (i 1).val / 819 = (i 0).val then 1 else 0 := fun i => by
    rw [extui_apply, hits_apply]
    split
    · rename_i h; rw [decide_eq_true h]; rfl
    · rename_i h; rw [decide_eq_false h]; rfl
  simp only [hv]
  rw [Finset.sum_boole, Finset.filter_filter]
  simp only [Nat.cast_id]
  have hcard : (Finset.Ico (819 * (j 0).val) (classEnd (j 0).val)).card = classEnd (j 0).val - 819 * (j 0).val := Nat.card_Ico ..
  rw [← hcard]
  refine Finset.card_bij (fun i _ => (i 1).val) ?_ ?_ ?_
  · intro i hi
    obtain ⟨h1, h2⟩ := (Finset.mem_filter.mp hi).2
    have h0 : (i 0).val = (j 0).val := by rw [← h1]; rfl
    have h3 : (i 1).val < 8182 := (i 1).isLt
    rw [Finset.mem_Ico]
    unfold classEnd
    omega
  · intro a ha b hb hab
    obtain ⟨h1, -⟩ := (Finset.mem_filter.mp ha).2
    obtain ⟨h2, -⟩ := (Finset.mem_filter.mp hb).2
    have h0 : a 0 = b 0 := Fin.ext (by
      have e1 : (a 0).val = (j 0).val := by rw [← h1]; rfl
      have e2 : (b 0).val = (j 0).val := by rw [← h2]; rfl
      omega)
    have h1 : a 1 = b 1 := Fin.ext hab
    rw [eq_ix2 a, eq_ix2 b, h0, h1]
  · intro n hn
    rw [Finset.mem_Ico] at hn
    unfold classEnd at hn
    refine ⟨ix2 (n0 := 10) (n1 := 8182) (j 0) ⟨n, by omega⟩, Finset.mem_filter.mpr ⟨Finset.mem_univ _, ?_, ?_⟩, rfl⟩
    · funext b; obtain rfl : b = 0 := Subsingleton.elim _ _; exact Fin.ext rfl
    · show n / 819 = (j 0).val
      omega

/-- The gather of a table of ten at a label from 0 to 9 is the table's entry at the label. -/
theorem gather_label (x : IVec S10 32) (y : IVec S8 32) (b : S8.Idx) (h0 : 0 ≤ (y b).toInt) (h1 : (y b).toInt < 10) :
    Host.gather gather_S10_S8x1_S8_n_0_n_n_0_1_1 x (rowIdx y) b = x (ix1 (n := 10) ⟨(y b).toInt.toNat, by omega⟩) := by
  have hrow : ∀ k : S8x1.Idx, (k 0).val = (b 0).val → rowIdx y k = y b := by
    intro k hk
    have hbc : ∀ z : IVec S8 32, broadcastInDim S8x1 ![0] bcast_S8_S8x1_0 z k = z b := fun z =>
      congrArg z (by funext a; obtain rfl : a = 0 := Subsingleton.elim _ _; exact Fin.ext hk)
    unfold rowIdx
    rw [hbc]
    show Scalar.select (IntOp.cmpi .slt (y b) 0#32) (IntOp.addi (y b) 10#32) (y b) = y b
    have hs : IntOp.cmpi .slt (y b) 0#32 = 0#1 := by
      show BitVec.ofBool ((y b).slt 0#32) = 0#1
      have : (y b).slt 0#32 = false := by
        rw [Bool.eq_false_iff]; intro h'
        have := BitVec.slt_iff_toInt_lt.mp h'
        simp at this
        omega
      rw [this]; rfl
    rw [hs]; rfl
  unfold Host.gather
  congr 1
  funext a
  obtain rfl : a = 0 := Subsingleton.elim _ _
  refine Fin.ext ?_
  show gather_S10_S8x1_S8_n_0_n_n_0_1_1.start b (rowIdx y) 0 + gather_S10_S8x1_S8_n_0_n_n_0_1_1.batchCoord b 0
    + gather_S10_S8x1_S8_n_0_n_n_0_1_1.offCoord b 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S10_S8x1_S8_n_0_n_n_0_1_1.startIndexMap from List.mem_singleton.mpr rfl)]
  rw [hrow _ rfl]
  show min (y b).toInt.toNat 9 = (y b).toInt.toNat
  omega

/-- THE FIRST TABLE. -/
theorem starts_apply (y : IVec S8 32) (b : S8.Idx) (h0 : 0 ≤ (y b).toInt) (h1 : (y b).toInt < 10) :
    (starts (F := Ideal) y b).toNat = 819 * (y b).toInt.toNat := by
  unfold starts
  rw [gather_label _ y b h0 h1, firsts_apply]

/-- THE SECOND TABLE. -/
theorem stops_apply (y : IVec S8 32) (b : S8.Idx) (h0 : 0 ≤ (y b).toInt) (h1 : (y b).toInt < 10) :
    (stops (F := Ideal) y b).toNat = classEnd (y b).toInt.toNat := by
  have hl : (y b).toInt.toNat < 10 := by omega
  unfold stops
  rw [gather_label _ y b h0 h1]
  show (firsts (F := Ideal) _ + counts (F := Ideal) _).toNat = _
  rw [BitVec.toNat_add, firsts_apply, counts_apply]
  show (819 * (y b).toInt.toNat + (BitVec.ofNat 32 (classEnd (y b).toInt.toNat - 819 * (y b).toInt.toNat)).toNat) % _ = _
  rw [BitVec.toNat_ofNat]
  unfold classEnd
  omega

end Cert.Proof

end
-- ==== Proof.Score.lean ====
/- The score of a code against a pixel, over the extended reals: what the kernel's window of the codebook and the
   reference's whole matrix of distances both hold. -/
module

public import proofs.«01_k».proof.Proof.Payload
public import proofs.«01_k».proof.Proof.RefRun
public import proofs.«01_k».proof.Proof.Classes
public import Idealize.ShloMosaic.Lib.MatmulPlain

@[expose] public section

noncomputable section

namespace Cert.Proof

open Idealize.ShloMosaic Idealize.ShloMosaic.ValueIdx

/-- The expanded squared distance of a code to a pixel whose own square is `s`. -/
def score (w z : Fin 256 → EReal) (s : EReal) : EReal :=
  ((∑ k, w k * w k) + s) - Ideal.ofBits .f32 0x40000000#32 * ∑ k, w k * z k

section Kernel
open Cert.KernelIdeal Cert.KernelIdeal.Gen

/-- ENTRY (row, pixel) of the window's scores. -/
theorem pay2_apply (w : FVec Ideal S832x256 .f32) (z : FVec Ideal S1x256x1024 .f32) (s : FVec Ideal S1x1x1024 .f32) (r : Fin 832)
    (p : Fin 1024) : k0_pay2 (F := Ideal) w z s (ix2 (n0 := 832) (n1 := 1024) r p)
      = score (fun k => w (ix2 (n0 := 832) (n1 := 256) r k)) (fun k => z (ix3 (n0 := 1) (n1 := 256) (n2 := 1024) 0 k p))
          (s (ix3 (n0 := 1) (n1 := 1) (n2 := 1024) 0 0 p)) := by
  have h1 : broadcastTo S832x1024 (shapeCast S832x1 (multiReduction (F := Ideal) .add [1] S832 (mulf w w) 0x00000000#32 reduces_S832x256_S832 (.inl rfl) rfl)
      shapeCasts_S832_S832x1) broadcasts_S832x1_S832x1024 (ix2 (n0 := 832) (n1 := 1024) r p)
      = ∑ k : Fin 256, w (ix2 (n0 := 832) (n1 := 256) r k) * w (ix2 (n0 := 832) (n1 := 256) r k) := by
    refine (broadcastTo_apply _ _ _ (ix2 (n0 := 832) (n1 := 1) r 0) fun a => match a with | ⟨0, _⟩ => rfl | ⟨1, _⟩ => rfl).trans ?_
    refine (shapeCast_a_a1_apply _ _ r 0).trans ?_
    refine (Ideal.multiReduction_add_single (mulf w w) _ reduces_S832x256_S832 (.inl rfl) rfl (ix1 (n := 832) r)).trans ?_
    refine Finset.sum_congr rfl fun k _ => ?_
    have : Shape.Reduces.lift reduces_S832x256_S832 (ix1 (n := 832) r) k = ix2 (n0 := 832) (n1 := 256) r k := Shape.idx_ext₂ rfl rfl
    rw [this]
    rfl
  have h2 : broadcastTo S832x1024 (shapeCast S1x1024 s shapeCasts_S1x1x1024_S1x1024) broadcasts_S1x1024_S832x1024 (ix2 (n0 := 832) (n1 := 1024) r p)
      = s (ix3 (n0 := 1) (n1 := 1) (n2 := 1024) 0 0 p) := by
    refine (broadcastTo_1b_ab_apply _ _ r p).trans ?_
    exact shapeCast_1ab_ab_apply _ _ _ _
  have h3 : (matmul dot_S832x256_S256x1024_S832x1024_1_0_0_1_n_n none w (shapeCast S256x1024 z shapeCasts_S1x256x1024_S256x1024)
      (constant (F := Ideal) S832x1024 .f32 0x00000000#32)) (ix2 (n0 := 832) (n1 := 1024) r p)
      = ∑ k : Fin 256, w (ix2 (n0 := 832) (n1 := 256) r k) * z (ix3 (n0 := 1) (n1 := 256) (n2 := 1024) 0 k p) := by
    refine (Ideal.matmul_plain_apply (M := 832) (K := 256) (N := 1024) none w (shapeCast S256x1024 z shapeCasts_S1x256x1024_S256x1024)
      (constant (F := Ideal) S832x1024 .f32 0x00000000#32) r p).trans ?_
    rw [constant_apply, Ideal.ofBits_zero_f32, zero_add]
    refine Finset.sum_congr rfl fun k _ => ?_
    rw [shapeCast_1ab_ab_apply]
  unfold k0_pay2 score
  rw [subf_apply, addf_apply, mulf_apply, h1, h2, h3]
  rfl

end Kernel

section Reference
open Cert.ReferenceIdeal Cert.ReferenceIdeal.Gen

/-- A row's sum of squares. -/
theorem rowSq_apply (x : FVec Ideal S8192x256 .f32) (q : Fin 8192) : Ref.rowSq x (ix1 (n := 8192) q)
    = ∑ k : Fin 256, x (ix2 (n0 := 8192) (n1 := 256) q k) * x (ix2 (n0 := 8192) (n1 := 256) q k) := by
  have hr : Shape.Reduces (⟨2, ![8192, 256]⟩ : Shape) [1] ⟨1, ![8192]⟩ := by decide
  unfold Ref.rowSq
  refine (Ideal.hostReduceAdd_single (s := S8192x256) (t := S8192) reducesTo_S8192x256_S8192_d1 hr (mulf x x) _ _).trans ?_
  have h0 : constant (F := Ideal) S_ .f32 0x00000000#32 (Shape.Idx.first h_S_) = (0 : EReal) := Ideal.ofBits_zero_f32
  rw [h0, zero_add]
  refine Finset.sum_congr rfl fun k _ => ?_
  have : Shape.Reduces.lift hr (ix1 (n := 8192) q) k = ix2 (n0 := 8192) (n1 := 256) q k := Shape.idx_ext₂ rfl rfl
  rw [this]
  rfl

/-- ENTRY (pixel, code) of the distances. -/
theorem dist_apply (p w : FVec Ideal S8192x256 .f32) (q n : Fin 8192) : Ref.dist p w (ix2 (n0 := 8192) (n1 := 8192) q n)
    = score (fun k => w (ix2 (n0 := 8192) (n1 := 256) n k)) (fun k => p (ix2 (n0 := 8192) (n1 := 256) q k))
        (∑ k : Fin 256, p (ix2 (n0 := 8192) (n1 := 256) q k) * p (ix2 (n0 := 8192) (n1 := 256) q k)) := by
  have h1 : broadcastInDim S8192x8192 ![0, 1] bcast_S1x8192_S8192x8192_0_1 (broadcastInDim S1x8192 ![1] bcast_S8192_S1x8192_1 (Ref.rowSq w))
      (ix2 (n0 := 8192) (n1 := 8192) q n) = Ref.rowSq w (ix1 (n := 8192) n) :=
    (broadcastInDim_apply _ _ _ _ (ix2 (n0 := 1) (n1 := 8192) 0 n) fun a => match a with | ⟨0, _⟩ => rfl | ⟨1, _⟩ => rfl).trans
      (broadcastInDim_apply _ _ _ _ (ix1 (n := 8192) n) fun a => match a with | ⟨0, _⟩ => rfl)
  have h2 : broadcastInDim S8192x8192 ![0, 1] bcast_S8192x1_S8192x8192_0_1 (broadcastInDim S8192x1 ![0] bcast_S8192_S8192x1_0 (Ref.rowSq p))
      (ix2 (n0 := 8192) (n1 := 8192) q n) = Ref.rowSq p (ix1 (n := 8192) q) :=
    (broadcastInDim_apply _ _ _ _ (ix2 (n0 := 8192) (n1 := 1) q 0) fun a => match a with | ⟨0, _⟩ => rfl | ⟨1, _⟩ => rfl).trans
      (broadcastInDim_apply _ _ _ _ (ix1 (n := 8192) q) fun a => match a with | ⟨0, _⟩ => rfl)
  have h3 : Host.dotGeneral dot_S8192x256_S256x8192_S8192x8192_1_0_0_1_n_n none p
        (transpose S256x8192 [1, 0] w transposes_S8192x256_S256x8192_1_0) (ix2 (n0 := 8192) (n1 := 8192) q n)
      = ∑ k : Fin 256, w (ix2 (n0 := 8192) (n1 := 256) n k) * p (ix2 (n0 := 8192) (n1 := 256) q k) := by
    refine ((Ideal.dotGeneral_apply (DotDims.plain 8192 256 8192) none _ p _ _).trans
      ((Ideal.matmul_constant_zero_apply (DotDims.plain 8192 256 8192) none p _ _).symm.trans
      (Ideal.matmul_plain_apply (M := 8192) (K := 256) (N := 8192) none p
        (transpose S256x8192 [1, 0] w transposes_S8192x256_S256x8192_1_0) (constant (F := Ideal) S8192x8192 .f32 0x00000000#32) q n))).trans ?_
    rw [constant_apply, Ideal.ofBits_zero_f32, zero_add]
    refine Finset.sum_congr rfl fun k _ => ?_
    rw [transpose_ix2_apply, mul_comm]
  unfold Ref.dist score
  rw [subf_apply, addf_apply, mulf_apply, h1, h2, h3, rowSq_apply, rowSq_apply]
  rfl

end Reference

end Cert.Proof

end
-- ==== Proof.KerRun.lean ====
/- What the kernel's body leaves at a grid point: the payload of its one store, read from the point's blocks and the two
   tables' words. -/
module

public import proofs.«01_k».proof.Proof.SideKernelIdeal
public import proofs.«01_k».proof.Proof.Score
public import Idealize.ShloMosaic.Lib.Pipeline.Value
public import Idealize.ShloMosaic.Lib.Pipeline.ValueKit.Geometry

@[expose] public section

noncomputable section

namespace Cert.Proof.Ker

open Idealize.ShloMosaic Idealize.ShloMosaic.TcCoe Idealize.ShloMosaic.ValueIdx
open Cert.KernelIdeal Cert.KernelIdeal.Gen

variable {F : FTy → Type} [FloatOps F]

/-- The store's payload from the two words, the window of the codebook, the image's maps and its squares. -/
def stored (v1 v3 : BitVec 32) (w : Vec F S832x256 .f32) (z : Vec F S1x256x1024 .f32) (s : Vec F S1x1x1024 .f32) : Vec F S1x1x1024 .i32 :=
  k0_pay1 (k0_pay8 (F := F) v1 v3 (alignWord v1) (k0_pay2 w z s)) (k0_pay10 (F := F) v1 v3 (alignWord v1) (k0_pay2 w z s))
    (k0_pay11 (F := F) v1 v3 (alignWord v1) (k0_pay2 w z s))

theorem hz3 : (![0, 0, 0] : Fin 3 → Nat) = fun _ => 0 := funext fun a => by fin_cases a <;> rfl

/-- A table's word at a grid point. -/
def word (c : Dev nD) (M : Memref sig .tc .smem S8 .i32) (i : grid0.Coords) (x : TbBuf0 (F := F) c M) : BitVec 32 :=
  M.view.readAt (Elt F) (Rect.unit (s := S8) (k0_off1 i) S1.size (k0_off1_inb i)).toLoadRect x (Shape.Idx.first (numel1_S1.symm ▸ Nat.one_pos))

set_option maxRecDepth 65536 in
theorem out_eq (c : Dev nD) (i : grid0.Coords) (arg3 : Memref sig .tc .vmem S1x256x1024 .f32) (harg3 : arg3.IsWhole) (arg4 : Memref sig .tc .vmem S1x1x1024 .f32) (harg4 : arg4.IsWhole) (arg5 : Memref sig .tc .vmem S8192x256 .f32) (harg5 : arg5.IsWhole) (arg6 : Memref sig .tc .vmem S1x1x1024 .i32) (harg6 : arg6.IsWhole)
    (x0 : Vec F S1x256x1024 .f32) (x1 : Vec F S1x1x1024 .f32) (x2 : Vec F S8192x256 .f32) (xt0 : TbBuf0 (F := F) c tbM0_0) (xt1 : TbBuf0 (F := F) c tbM0_1) (hw : k0_chk1 (word c tbM0_0 i xt0)) :
    out0_A_3 c i arg3 harg3 arg4 harg4 arg5 harg5 arg6 harg6 x0 x1 x2 xt0 xt1 hw
      = stored (word c tbM0_0 i xt0) (word c tbM0_1 i xt1)
          (View.ld x2 (Rect.unit (s := S8192x256) (k0_off2 (word c tbM0_0 i xt0)) S832x256.size (k0_off2_inb _ hw))) x0 x1 := by
  unfold out0_A_3
  rw [View.read_writes_junk_eq_canon]
  show View.canon ([⟨Rect.unit ![0, 0, 0] S1x1x1024.size inb_S1x1x1024_S1x1x1024_0_0_0,
      stored (word c tbM0_0 i xt0) (word c tbM0_1 i xt1)
        (View.readAt (Elt F) arg5.view (Rect.unit (s := S8192x256) (k0_off2 (word c tbM0_0 i xt0)) S832x256.size (k0_off2_inb _ hw)).toLoadRect (harg5.unread x2))
        (View.readAt (Elt F) arg3.view (Rect.unit (s := S1x256x1024) ![0, 0, 0] S1x256x1024.size inb_S1x256x1024_S1x256x1024_0_0_0).toLoadRect (harg3.unread x0))
        (View.readAt (Elt F) arg4.view (Rect.unit (s := S1x1x1024) ![0, 0, 0] S1x1x1024.size inb_S1x1x1024_S1x1x1024_0_0_0).toLoadRect (harg4.unread x1))⟩] :
      List (View.Piece (Elt F) S1x1x1024 .i32)) = _
  rw [View.canon_unit_zero hz3, View.readAt_eq_ld, View.readAt_eq_ld, View.readAt_eq_ld, harg3.read_unread, harg4.read_unread,
    harg5.read_unread, View.ld_unit_zero hz3, View.ld_unit_zero hz3]

variable (m : (ℓ : Loc nD τ sig) → Buf (Elt F) ℓ) (ρ : Dev nD → PrngReg)

/-- A grid point reads the tables' words at the point. -/
theorem coord_eq : ∀ t : Fin grid0.N, k0_off1 (grid0.coords t) 0 = t.val := by decide +kernel

theorem index0 (hO : Ok m) (t : Fin (cfgM m hO).N) : ((cfgM m hO).win 0).index t (0 : Fin 3) = t.val ∧ ((cfgM m hO).win 0).index t (1 : Fin 3) = 0
    ∧ ((cfgM m hO).win 0).index t (2 : Fin 3) = 0 :=
  (by decide +kernel : ∀ t : Fin grid0.N, cc0_transform_0 (grid0.coords t) 0 = t.val ∧ cc0_transform_0 (grid0.coords t) 1 = 0 ∧ cc0_transform_0 (grid0.coords t) 2 = 0) t

theorem index1 (hO : Ok m) (t : Fin (cfgM m hO).N) : ((cfgM m hO).win 1).index t (0 : Fin 3) = t.val ∧ ((cfgM m hO).win 1).index t (1 : Fin 3) = 0
    ∧ ((cfgM m hO).win 1).index t (2 : Fin 3) = 0 :=
  (by decide +kernel : ∀ t : Fin grid0.N, cc0_transform_1 (grid0.coords t) 0 = t.val ∧ cc0_transform_1 (grid0.coords t) 1 = 0 ∧ cc0_transform_1 (grid0.coords t) 2 = 0) t

theorem index2 (hO : Ok m) (t : Fin (cfgM m hO).N) : ((cfgM m hO).win 2).index t (0 : Fin 2) = 0 ∧ ((cfgM m hO).win 2).index t (1 : Fin 2) = 0 :=
  (by decide +kernel : ∀ t : Fin grid0.N, cc0_transform_2 (grid0.coords t) 0 = 0 ∧ cc0_transform_2 (grid0.coords t) 1 = 0) t

theorem index3 (hO : Ok m) (t : Fin (cfgM m hO).N) : ((cfgM m hO).win 3).index t (0 : Fin 3) = t.val ∧ ((cfgM m hO).win 3).index t (1 : Fin 3) = 0
    ∧ ((cfgM m hO).win 3).index t (2 : Fin 3) = 0 :=
  (by decide +kernel : ∀ t : Fin grid0.N, cc0_transform_3 (grid0.coords t) 0 = t.val ∧ cc0_transform_3 (grid0.coords t) 1 = 0 ∧ cc0_transform_3 (grid0.coords t) 2 = 0) t

/-- The maps' block at an image. -/
theorem block0 (hO : Ok m) (c : Dev nD) (t : Fin (cfgM m hO).N) (b : Fin 8) (hb : b.val = t.val) (k : Fin 256) (p : Fin 1024) :
    (iblk m hO c 0 t : Vec F S1x256x1024 .f32) (ix3 (n0 := 1) (n1 := 256) (n2 := 1024) 0 k p)
      = (V m c main_v32 : Vec F S8x256x1024 .f32) (ix3 (n0 := 8) (n1 := 256) (n2 := 1024) b k p) := by
  obtain ⟨e0, e1, e2⟩ := index0 m hO t
  refine congrArg (V m c main_v32 : Vec F S8x256x1024 .f32) ?_
  funext a; apply Fin.ext
  match a with
  | ⟨0, _⟩ => show ((cfgM m hO).win 0).index t (0 : Fin 3) * 1 + 1 * 0 = b.val; omega
  | ⟨1, _⟩ => show ((cfgM m hO).win 0).index t (1 : Fin 3) * 256 + 1 * k.val = k.val; omega
  | ⟨2, _⟩ => show ((cfgM m hO).win 0).index t (2 : Fin 3) * 1024 + 1 * p.val = p.val; omega

/-- The squares' block at an image. -/
theorem block1 (hO : Ok m) (c : Dev nD) (t : Fin (cfgM m hO).N) (b : Fin 8) (hb : b.val = t.val) (p : Fin 1024) :
    (iblk m hO c 1 t : Vec F S1x1x1024 .f32) (ix3 (n0 := 1) (n1 := 1) (n2 := 1024) 0 0 p)
      = (V m c main_v31 : Vec F S8x1x1024 .f32) (ix3 (n0 := 8) (n1 := 1) (n2 := 1024) b 0 p) := by
  obtain ⟨e0, e1, e2⟩ := index1 m hO t
  refine congrArg (V m c main_v31 : Vec F S8x1x1024 .f32) ?_
  funext a; apply Fin.ext
  match a with
  | ⟨0, _⟩ => show ((cfgM m hO).win 1).index t (0 : Fin 3) * 1 + 1 * 0 = b.val; omega
  | ⟨1, _⟩ => show ((cfgM m hO).win 1).index t (1 : Fin 3) * 1 + 1 * 0 = 0; omega
  | ⟨2, _⟩ => show ((cfgM m hO).win 1).index t (2 : Fin 3) * 1024 + 1 * p.val = p.val; omega

/-- The codebook's block is the codebook. -/
theorem block2 (hO : Ok m) (c : Dev nD) (t : Fin (cfgM m hO).N) (n : Fin 8192) (k : Fin 256) :
    (iblk m hO c 2 t : Vec F S8192x256 .f32) (ix2 (n0 := 8192) (n1 := 256) n k)
      = (V m c main_arg1 : Vec F S8192x256 .f32) (ix2 (n0 := 8192) (n1 := 256) n k) := by
  obtain ⟨e0, e1⟩ := index2 m hO t
  refine congrArg (V m c main_arg1 : Vec F S8192x256 .f32) ?_
  funext a; apply Fin.ext
  match a with
  | ⟨0, _⟩ => show ((cfgM m hO).win 2).index t (0 : Fin 2) * 8192 + 1 * n.val = n.val; omega
  | ⟨1, _⟩ => show ((cfgM m hO).win 2).index t (1 : Fin 2) * 256 + 1 * k.val = k.val; omega

/-- The tables' words at an image. -/
theorem word0 (c : Dev nD) (t : Fin grid0.N) (b : Fin 8) (hb : b.val = t.val) :
    word (F := F) c tbM0_0 (grid0.coords t) (tbl m 0) = (V m c main_v19 : IVec S8 32) (ix1 (n := 8) b) := by
  obtain rfl : c = 0 := Subsingleton.elim _ _
  have e := coord_eq t
  refine congrArg (V m 0 main_v19 : IVec S8 32) ?_
  funext a; apply Fin.ext
  match a with
  | ⟨0, _⟩ => show k0_off1 (grid0.coords t) 0 + 1 * 0 = b.val; omega

theorem word1 (c : Dev nD) (t : Fin grid0.N) (b : Fin 8) (hb : b.val = t.val) :
    word (F := F) c tbM0_1 (grid0.coords t) (tbl m 1) = (V m c main_v26 : IVec S8 32) (ix1 (n := 8) b) := by
  obtain rfl : c = 0 := Subsingleton.elim _ _
  have e := coord_eq t
  refine congrArg (V m 0 main_v26 : IVec S8 32) ?_
  funext a; apply Fin.ext
  match a with
  | ⟨0, _⟩ => show k0_off1 (grid0.coords t) 0 + 1 * 0 = b.val; omega

/-- The result array before its last reshape: image `b`'s row is what the body leaves at point `b`. -/
def rows (hO : Ok m) (hH : Hyps m hO) (c : Dev nD) : Vec F S8x1x1024 .i32 := fun i =>
  outsAt0 m hO hH c (⟨(i 0).val, (i 0).isLt⟩ : Fin grid0.N) (ix3 (n0 := 1) (n1 := 1) (n2 := 1024) 0 0 (i 2))

/-- Where a point's output block lies in the result array. -/
theorem place3 (hO : Ok m) (t : Fin (cfgM m hO).N) (y : S1x1x1024.Idx) :
    (((cfgM m hO).win 3).blk t).view.emb y = ix3 (n0 := 8) (n1 := 1) (n2 := 1024) ⟨t.val, t.isLt⟩ 0 (y 2) := by
  obtain ⟨e0, e1, e2⟩ := index3 m hO t
  have h0 : (y 0).val = 0 := Nat.lt_one_iff.mp (y 0).isLt
  have h1 : (y 1).val = 0 := Nat.lt_one_iff.mp (y 1).isLt
  funext a; apply Fin.ext
  match a with
  | ⟨0, _⟩ => show ((cfgM m hO).win 3).index t (0 : Fin 3) * 1 + 1 * (y 0).val = t.val; omega
  | ⟨1, _⟩ => show ((cfgM m hO).win 3).index t (1 : Fin 3) * 1 + 1 * (y 1).val = 0; omega
  | ⟨2, _⟩ => show ((cfgM m hO).win 3).index t (2 : Fin 3) * 1024 + 1 * (y 2).val = (y 2).val; omega

theorem outs_rows (hO : Ok m) (hH : Hyps m hO) (c : Dev nD) (t : Fin (cfgM m hO).N) (y : S1x1x1024.Idx) :
    outsAt0 m hO hH c t y = rows m hO hH c (ix3 (n0 := 8) (n1 := 1) (n2 := 1024) ⟨t.val, t.isLt⟩ 0 (y 2)) := by
  show outsAt0 m hO hH c t y = outsAt0 m hO hH c t (ix3 (n0 := 1) (n1 := 1) (n2 := 1024) 0 0 (y 2))
  congr 1
  funext a
  match a with
  | ⟨0, _⟩ => exact Subsingleton.elim (α := Fin 1) _ _
  | ⟨1, _⟩ => exact Subsingleton.elim (α := Fin 1) _ _
  | ⟨2, _⟩ => rfl

theorem covered3 (hO : Ok m) (i : S8x1x1024.Idx) :
    ∃ t : Fin (cfgM m hO).N, ((cfgM m hO).win 3).flush t = true ∧ i ∈ (((cfgM m hO).win 3).blk t).view.set := by
  refine ⟨(⟨(i 0).val, (i 0).isLt⟩ : Fin grid0.N), flush0_3 _ _, ?_⟩
  have h := (((cfgM m hO).win 3).blk (⟨(i 0).val, (i 0).isLt⟩ : Fin grid0.N)).view.emb_mem_set
    (ix3 (n0 := 1) (n1 := 1) (n2 := 1024) 0 0 (i 2))
  rw [place3] at h
  have hi : (ix3 (n0 := 8) (n1 := 1) (n2 := 1024) ⟨(i 0).val, (i 0).isLt⟩ 0 (i 2) : S8x1x1024.Idx) = i := by
    funext a
    match a with
    | ⟨0, _⟩ => rfl
    | ⟨1, _⟩ => exact Subsingleton.elim (α := Fin 1) _ _
    | ⟨2, _⟩ => rfl
  exact hi ▸ h

theorem array3 (hO : Ok m) (hH : Hyps m hO) (c : Dev nD) : (dats m hO hH 0 c).arrAt 3 (cfgM m hO).N = rows m hO hH c :=
  (dats m hO hH 0 c).arrAt_eq_of_emb 3 (rows m hO hH c)
    (fun t _ y => (congrFun (after0_3 m hO hH c t) y).trans
      ((outs_rows m hO hH c t y).trans (congrArg (rows m hO hH c) (place3 m hO t y).symm)))
    (covered3 m hO)

end Cert.Proof.Ker

end
-- ==== Proof.RefMask.lean ====
/- The reference's mask and its arg-min's order, over the extended reals. -/
module

public import proofs.«01_k».proof.Proof.Score

@[expose] public section

noncomputable section

namespace Cert.Proof.Ref

open Idealize.ShloMosaic Idealize.ShloMosaic.ValueIdx
open Cert.ReferenceIdeal Cert.ReferenceIdeal.Gen

/-- The reference assigns the code indices to the classes as the kernel's program does. -/
theorem uni_eq : (Host.roundeven (lin (constant (F := Ideal) S_ .f32 0xBF000000#32) (constant S_ .f32 0x4117D70A#32)) : FVec Ideal S8182 .f32)
    = Cert.Proof.uni (F := Ideal) := by
  unfold Cert.Proof.uni Cert.Proof.lin Cert.Proof.linHead Cert.Proof.linT Cert.Proof.linA Cert.Proof.linB lin
  rfl

/-- A pixel's label is its image's. -/
theorem lab_apply (y : IVec S8 32) (q : Fin 8192) : lab y (ix1 (n := 8192) q) = y (ix1 (n := 8) ⟨q.val / 1024, by have := q.isLt; omega⟩) := by
  have hq := q.isLt
  unfold lab
  refine (shapeCast_apply (s := S8x1024) (t := S8192) _ _ _ (ix2 (n0 := 8) (n1 := 1024) ⟨q.val / 1024, by omega⟩ ⟨q.val % 1024, by omega⟩) ?_).trans ?_
  · rw [Shape.rowMajor_val_two, Shape.rowMajor_val_one]
    show q.val / 1024 * 1024 + q.val % 1024 = q.val
    omega
  · exact broadcastInDim_apply _ _ _ _ (ix1 (n := 8) ⟨q.val / 1024, by omega⟩) fun a => match a with | ⟨0, _⟩ => rfl

/-- Whether code `n` is of class `c`. -/
def InClass (c n : ℕ) : Prop := n < 8182 ∧ n / 819 = c

/-- ENTRY (pixel, code) of the mask: clear exactly where the code is of the pixel's class. -/
theorem mask_apply (y : IVec S8192 32) (q n : Fin 8192) (h0 : 0 ≤ (y (ix1 (n := 8192) q)).toInt) :
    (InClass (y (ix1 (n := 8192) q)).toInt.toNat n.val ∧ mask (Cert.Proof.uni (F := Ideal)) y (ix2 (n0 := 8192) (n1 := 8192) q n) = 0#1)
    ∨ (¬ InClass (y (ix1 (n := 8192) q)).toInt.toNat n.val ∧ mask (Cert.Proof.uni (F := Ideal)) y (ix2 (n0 := 8192) (n1 := 8192) q n) = 1#1) := by
  unfold mask InClass
  by_cases hn : n.val < 8182
  · have hv : concatenate S8192x8192 1
        [⟨S8192x8182, cmpf .une
          (broadcastInDim S8192x8182 ![0, 1] bcast_S1x8182_S8192x8182_0_1 (broadcastInDim S1x8182 ![1] bcast_S8182_S1x8182_1 (Cert.Proof.uni (F := Ideal))))
          (broadcastInDim S8192x8182 ![0, 1] bcast_S8192x1_S8192x8182_0_1 (sitofp .f32 (broadcastInDim S8192x1 ![0] bcast_S8192_S8192x1_0 y)))⟩,
         ⟨S8192x10, broadcastInDim S8192x10 ![] bcast_S_S8192x10 (constantI S_ 1 1#1)⟩] concatenates_S8192x8182_S8192x10_S8192x8192_d1
        (ix2 (n0 := 8192) (n1 := 8192) q n)
        = BitVec.ofBool (decide (n.val / 819 ≠ (y (ix1 (n := 8192) q)).toInt.toNat)) := by
      refine (concatenate_pair_apply_left (s₁ := S8192x8182) (s₂ := S8192x10) _ _ _ _ (ix2 (n0 := 8192) (n1 := 8192) q n)
        rfl (ix2 (n0 := 8192) (n1 := 8182) q ⟨n.val, hn⟩) (fun a => match a with | ⟨0, _⟩ => rfl | ⟨1, _⟩ => rfl)).trans ?_
      have hl : broadcastInDim S8192x8182 ![0, 1] bcast_S1x8182_S8192x8182_0_1 (broadcastInDim S1x8182 ![1] bcast_S8182_S1x8182_1 (Cert.Proof.uni (F := Ideal)))
          (ix2 (n0 := 8192) (n1 := 8182) q ⟨n.val, hn⟩) = ((((n.val / 819 : ℕ) : ℝ)) : EReal) := (uni_apply _).trans rfl
      have hr : broadcastInDim S8192x8182 ![0, 1] bcast_S8192x1_S8192x8182_0_1 (sitofp (F := Ideal) .f32 (broadcastInDim S8192x1 ![0] bcast_S8192_S8192x1_0 y))
          (ix2 (n0 := 8192) (n1 := 8182) q ⟨n.val, hn⟩) = (((((y (ix1 (n := 8192) q)).toInt : ℤ) : ℝ)) : EReal) := by
        refine (broadcastInDim_apply _ _ _ _ (ix2 (n0 := 8192) (n1 := 1) q 0) fun a => match a with | ⟨0, _⟩ => rfl | ⟨1, _⟩ => rfl).trans ?_
        have : broadcastInDim S8192x1 ![0] bcast_S8192_S8192x1_0 y (ix2 (n0 := 8192) (n1 := 1) q 0) = y (ix1 (n := 8192) q) :=
          broadcastInDim_apply _ _ _ _ (ix1 (n := 8192) q) fun a => match a with | ⟨0, _⟩ => rfl
        rw [sitofp_apply, this]
        rfl
      rw [cmpf_apply, hl, hr]
      show BitVec.ofBool (decide _) = _
      congr 1
      refine decide_eq_decide.mpr (not_congr ?_)
      obtain ⟨k, hk⟩ := Int.eq_ofNat_of_zero_le h0
      rw [hk]
      show ((((n.val / 819 : ℕ) : ℝ)) : EReal) = ((((k : ℕ) : ℤ) : ℝ) : EReal) ↔ n.val / 819 = k
      rw [Int.cast_natCast, EReal.coe_eq_coe_iff, Nat.cast_inj]
    rw [hv]
    by_cases hc : n.val / 819 = (y (ix1 (n := 8192) q)).toInt.toNat
    · left; refine ⟨⟨hn, hc⟩, ?_⟩; rw [decide_eq_false (not_not.mpr hc)]; rfl
    · right; refine ⟨fun h => hc h.2, ?_⟩; rw [decide_eq_true hc]; rfl
  · right
    refine ⟨fun h => hn h.1, ?_⟩
    refine (concatenate_pair_apply_right (s₁ := S8192x8182) (s₂ := S8192x10) _ _ _ _ (ix2 (n0 := 8192) (n1 := 8192) q n)
      rfl rfl (ix2 (n0 := 8192) (n1 := 10) q ⟨n.val - 8182, by have := n.isLt; omega⟩) ?_ ?_).trans ?_
    · exact fun a => match a with | ⟨0, _⟩ => fun _ => rfl | ⟨1, _⟩ => fun h => absurd rfl h
    · show n.val - 8182 + 8182 = n.val
      omega
    · rfl

/-- The order the arg-min keeps the least of: the value, then the index. -/
def distKey (a : Ideal .f32 × BitVec 32) : EReal ×ₗ ℤ := toLex (a.1, a.2.toInt)

theorem reducer_argmin_least (a b : Ideal .f32 × BitVec 32) :
    (reducer_argmin_f32_i32 (F := Ideal) a b = a ∨ reducer_argmin_f32_i32 (F := Ideal) a b = b)
    ∧ distKey (reducer_argmin_f32_i32 (F := Ideal) a b) ≤ distKey a ∧ distKey (reducer_argmin_f32_i32 (F := Ideal) a b) ≤ distKey b := by
  obtain ⟨(p : EReal), i⟩ := a
  obtain ⟨(q : EReal), j⟩ := b
  have key : reducer_argmin_f32_i32 (F := Ideal) (p, i) (q, j)
      = (Scalar.select (IntOp.ori (Ideal.cmp .olt p q) (Ideal.cmp .une p p)) p q,
         Scalar.select (IntOp.ori (IntOp.ori (Ideal.cmp .olt p q) (Ideal.cmp .une p p)) (IntOp.andi (Ideal.cmp .oeq p q) (IntOp.cmpi .slt i j))) i j) := rfl
  have hlt : (IntOp.cmpi .slt i j = 1#1 ∧ i.toInt < j.toInt) ∨ (IntOp.cmpi .slt i j = 0#1 ∧ j.toInt ≤ i.toInt) := by
    rcases lt_or_ge i.toInt j.toInt with h | h
    · exact Or.inl ⟨(slt_bit i j).mpr h, h⟩
    · exact Or.inr ⟨eq_zero_of_ne_one fun h' => absurd ((slt_bit i j).mp h') (by omega), h⟩
  have hne : Ideal.cmp .une p p = 0#1 := by
    show BitVec.ofBool (decide (p ≠ p)) = 0#1
    rw [decide_eq_false (not_not.mpr rfl)]; rfl
  rw [key, hne]
  unfold distKey
  rcases lt_trichotomy p q with h | h | h
  · have h1 : Ideal.cmp .olt p q = 1#1 := by show BitVec.ofBool (decide (p < q)) = 1#1; rw [decide_eq_true h]; rfl
    rw [h1]
    have : (Scalar.select (IntOp.ori 1#1 0#1) p q, Scalar.select (IntOp.ori (IntOp.ori 1#1 0#1) (IntOp.andi (Ideal.cmp .oeq p q) (IntOp.cmpi .slt i j))) i j) = (p, i) := by
      rcases (by decide : ∀ c : BitVec 1, c = 0#1 ∨ c = 1#1) (IntOp.andi (Ideal.cmp .oeq p q) (IntOp.cmpi .slt i j)) with h2 | h2 <;> rw [h2] <;> rfl
    rw [this]
    exact ⟨Or.inl rfl, le_rfl, Prod.Lex.toLex_le_toLex.mpr (Or.inl h)⟩
  · subst h
    have h1 : Ideal.cmp .olt p p = 0#1 := by show BitVec.ofBool (decide (p < p)) = 0#1; rw [decide_eq_false (lt_irrefl p)]; rfl
    have h2 : Ideal.cmp .oeq p p = 1#1 := by show BitVec.ofBool (decide (p = p)) = 1#1; rw [decide_eq_true rfl]; rfl
    rw [h1, h2]
    rcases hlt with ⟨h3, h4⟩ | ⟨h3, h4⟩ <;> rw [h3]
    · exact ⟨Or.inl rfl, le_rfl, Prod.Lex.toLex_le_toLex.mpr (Or.inr ⟨rfl, h4.le⟩)⟩
    · exact ⟨Or.inr rfl, Prod.Lex.toLex_le_toLex.mpr (Or.inr ⟨rfl, h4⟩), le_rfl⟩
  · have h1 : Ideal.cmp .olt p q = 0#1 := by show BitVec.ofBool (decide (p < q)) = 0#1; rw [decide_eq_false h.not_gt]; rfl
    have h2 : Ideal.cmp .oeq p q = 0#1 := by show BitVec.ofBool (decide (p = q)) = 0#1; rw [decide_eq_false h.ne']; rfl
    rw [h1, h2]
    rcases hlt with ⟨h3, h4⟩ | ⟨h3, h4⟩ <;> rw [h3] <;>
      exact ⟨Or.inr rfl, Prod.Lex.toLex_le_toLex.mpr (Or.inl h), le_rfl⟩

end Cert.Proof.Ref

end
-- ==== Proof.RefPick.lean ====
/- What the reference answers at a pixel, over the extended reals: the first code of the pixel's class whose score is
   least. -/
module

public import proofs.«01_k».proof.Proof.RefMask

@[expose] public section

noncomputable section

namespace Cert.Proof.Ref

open Idealize.ShloMosaic Idealize.ShloMosaic.ValueIdx
open Cert.ReferenceIdeal Cert.ReferenceIdeal.Gen

/-- An arg-min or arg-max over the extended reals: its pair is the start or an entry of the row, of least key. -/
theorem argReduce_least {s t u : Shape} {axes : List (Fin s.rank)} {κ : Type} [LinearOrder κ] (key : Ideal .f32 × BitVec 32 → κ)
    (f : Ideal .f32 × BitVec 32 → Ideal .f32 × BitVec 32 → Ideal .f32 × BitVec 32)
    (hf : ∀ a b, (f a b = a ∨ f a b = b) ∧ key (f a b) ≤ key a ∧ key (f a b) ≤ key b)
    (x : FVec Ideal s .f32) (y : IVec s 32) (ix : FVec Ideal u .f32) (iy : IVec u 32) (h : s.ReducesTo axes t) (hu : 0 < u.numel)
    (j : t.Idx) : ∃ R : Ideal .f32 × BitVec 32, (Host.argReduce f x y ix iy h hu j).2 = R.2
    ∧ ((R = (ix (Shape.Idx.first hu), iy (Shape.Idx.first hu)) ∨ ∃ i, h.drop i = j ∧ R = (x i, y i))
      ∧ ∀ i, h.drop i = j → key R ≤ key (x i, y i)) := by
  rw [Ideal.argReduce_eq_reduce2]
  exact ⟨_, rfl, reduce2_least key f hf x y ix iy h hu j⟩

/-- The reference's arg-min, spelled out. -/
theorem least_def {F : FTy → Type} [FloatOps F] (d : FVec F S8192x8192 .f32) : least d = fun j =>
  (Host.argReduce reducer_argmin_f32_i32 d (iotaInDim S8192x8192 32 1) (constant S_ .f32 0x7F800000#32)
    (constantI S_ 32 0#32) reducesTo_S8192x8192_S8192_d1 h_S_ j).2 := by
  delta least
  exact Eq.refl _

/-- The arg-min's pair: the start or an entry of the row, of least key. -/
theorem least_pair (d : FVec Ideal S8192x8192 .f32) (j : S8192.Idx) : ∃ R : Ideal .f32 × BitVec 32, least d j = R.2
    ∧ ((R = (constant (F := Ideal) S_ .f32 0x7F800000#32 (Shape.Idx.first h_S_), constantI S_ 32 0#32 (Shape.Idx.first h_S_))
        ∨ ∃ i, reducesTo_S8192x8192_S8192_d1.drop i = j ∧ R = (d i, iotaInDim S8192x8192 32 1 i))
      ∧ ∀ i, reducesTo_S8192x8192_S8192_d1.drop i = j → distKey R ≤ distKey (d i, iotaInDim S8192x8192 32 1 i)) := by
  obtain ⟨R, h1, h2⟩ := argReduce_least distKey (reducer_argmin_f32_i32 (F := Ideal)) reducer_argmin_least d (iotaInDim S8192x8192 32 1)
    (constant (F := Ideal) S_ .f32 0x7F800000#32) (constantI S_ 32 0#32) reducesTo_S8192x8192_S8192_d1 h_S_ j
  exact ⟨R, (congrFun (least_def d) j).trans h1, h2⟩

/-- THE LEAST OF A ROW whose entries are infinite off a set: the set's first entry of least value. -/
theorem least_spec (M : FVec Ideal S8192x8192 .f32) (q : Fin 8192) (P : Fin 8192 → Prop) (D : Fin 8192 → EReal)
    (hval : ∀ n, (P n ∧ M (ix2 (n0 := 8192) (n1 := 8192) q n) = D n) ∨ (¬ P n ∧ M (ix2 (n0 := 8192) (n1 := 8192) q n) = (⊤ : EReal)))
    (hfin : ∀ n, D n < ⊤) (hex : ∃ n, P n) :
    ∃ n : Fin 8192, P n ∧ least M (ix1 (n := 8192) q) = BitVec.ofNat 32 n.val ∧ ∀ n', P n' → D n ≤ D n' ∧ (n' < n → D n < D n') := by
  obtain ⟨R, hR0, h1, h2⟩ := least_pair M (ix1 (n := 8192) q)
  rw [hR0]
  have hint : ∀ n : Fin 8192, (BitVec.ofNat 32 n.val).toInt = n.val := fun n => by
    have := n.isLt
    rw [BitVec.toInt_eq_toNat_of_lt (by rw [BitVec.toNat_ofNat, Nat.mod_eq_of_lt (by omega)]; omega), BitVec.toNat_ofNat,
      Nat.mod_eq_of_lt (by omega)]
  have hk : ∀ n : Fin 8192, distKey R ≤ toLex (M (ix2 (n0 := 8192) (n1 := 8192) q n), ((n.val : ℕ) : ℤ)) := fun n => by
    have := h2 (ix2 (n0 := 8192) (n1 := 8192) q n) (by
      funext b; obtain rfl : b = 0 := Subsingleton.elim _ _; exact Fin.ext rfl)
    refine this.trans (le_of_eq ?_)
    show toLex (M (ix2 (n0 := 8192) (n1 := 8192) q n), (BitVec.ofNat 32 n.val).toInt) = _
    rw [hint]
  have hlt : R.1 < ⊤ := by
    obtain ⟨n, hn⟩ := hex
    have h3 := Prod.Lex.toLex_le_toLex.mp (hk n)
    rcases hval n with ⟨_, hv⟩ | ⟨hv, _⟩
    · rw [hv] at h3
      rcases h3 with h3 | ⟨h3, _⟩
      · exact h3.trans (hfin n)
      · exact h3.trans_lt (hfin n)
    · exact absurd hn hv
  rcases h1 with h1 | ⟨i, hi, h1⟩
  · rw [h1] at hlt
    exact absurd bits_inf hlt.ne
  · obtain ⟨a, n, rfl⟩ : ∃ (a n : Fin 8192), i = ix2 (n0 := 8192) (n1 := 8192) a n := ⟨_, _, eq_ix2 i⟩
    have ha : a = q := congrFun hi 0
    subst ha
    have hR : R = (M (ix2 (n0 := 8192) (n1 := 8192) a n), BitVec.ofNat 32 n.val) := h1
    have hP : P n ∧ M (ix2 (n0 := 8192) (n1 := 8192) a n) = D n := by
      rcases hval n with hv | ⟨_, hv⟩
      · exact hv
      · rw [hR] at hlt; exact absurd hv hlt.ne
    refine ⟨n, hP.1, by rw [hR], fun n' hn' => ?_⟩
    have hn'' : M (ix2 (n0 := 8192) (n1 := 8192) a n') = D n' := by
      rcases hval n' with hv | ⟨hv, _⟩
      · exact hv.2
      · exact absurd hn' hv
    have h3 := hk n'
    rw [hR, hn''] at h3
    unfold distKey at h3
    rw [hP.2, hint] at h3
    rcases Prod.Lex.toLex_le_toLex.mp h3 with h4 | ⟨h4, h5⟩
    · exact ⟨h4.le, fun _ => h4⟩
    · refine ⟨le_of_eq h4, fun h6 => ?_⟩
      have : n'.val < n.val := h6
      simp only at h5
      omega

theorem masked_apply (k : IVec S8192x8192 1) (d : FVec Ideal S8192x8192 .f32) (i : S8192x8192.Idx) :
    (k i = 0#1 → masked k d i = d i) ∧ (k i = 1#1 → masked k d i = (⊤ : EReal)) := by
  unfold masked
  rw [select_apply]
  constructor
  · intro h; rw [h]; exact select_zero _ _
  · intro h; rw [h]; exact (select_one _ _).trans bits_inf

/-- THE REFERENCE'S CODE AT A PIXEL: of the pixel's class, of least score, the first of several. -/
theorem best_spec (x : FVec Ideal S8x256x32x32 .f32) (w : FVec Ideal S8192x256 .f32) (y : IVec S8 32) (q : Fin 8192)
    (h0 : 0 ≤ (lab y (ix1 (n := 8192) q)).toInt) (h1 : (lab y (ix1 (n := 8192) q)).toInt < 10)
    (hfin : ∀ n : Fin 8192, dist (pix x) w (ix2 (n0 := 8192) (n1 := 8192) q n) < ⊤) :
    ∃ n : Fin 8192, InClass (lab y (ix1 (n := 8192) q)).toInt.toNat n.val
      ∧ best (F := Ideal) x w y (ix1 (n := 8192) q) = BitVec.ofNat 32 n.val
      ∧ ∀ n' : Fin 8192, InClass (lab y (ix1 (n := 8192) q)).toInt.toNat n'.val →
          dist (pix x) w (ix2 (n0 := 8192) (n1 := 8192) q n) ≤ dist (pix x) w (ix2 (n0 := 8192) (n1 := 8192) q n')
          ∧ (n' < n → dist (pix x) w (ix2 (n0 := 8192) (n1 := 8192) q n) < dist (pix x) w (ix2 (n0 := 8192) (n1 := 8192) q n')) := by
  unfold best
  rw [uni_eq]
  refine least_spec _ q (fun n => InClass (lab y (ix1 (n := 8192) q)).toInt.toNat n.val)
    (fun n => dist (pix x) w (ix2 (n0 := 8192) (n1 := 8192) q n)) (fun n => ?_) hfin ?_
  · rcases mask_apply (lab y) q n h0 with ⟨a, b⟩ | ⟨a, b⟩
    · exact Or.inl ⟨a, (masked_apply _ _ _).1 b⟩
    · exact Or.inr ⟨a, (masked_apply _ _ _).2 b⟩
  · have hc : (lab y (ix1 (n := 8192) q)).toInt.toNat < 10 := by omega
    generalize (lab y (ix1 (n := 8192) q)).toInt.toNat = c at hc
    refine ⟨⟨819 * c, by omega⟩, ?_⟩
    show 819 * c < 8182 ∧ 819 * c / 819 = c
    omega

end Cert.Proof.Ref

end
-- ==== Proof.Finite.lean ====
/- What the precondition says, element by element, and that the scores it leaves are finite. -/
module

public import proofs.«01_k».proof.Proof.Score
public import proofs.«01_k».proof.Pre_finite_and_labelled
public import Idealize.ShloMosaic.Lib.ReduceAll

@[expose] public section

noncomputable section

namespace Cert.Proof

open Idealize.ShloMosaic Idealize.ShloMosaic.ValueIdx

/-- A value that is neither infinity. -/
def IsReal (x : EReal) : Prop := ∃ r : ℝ, x = r

theorem IsReal.of_between {x : EReal} (h : ⊥ < x) (h' : x < ⊤) : IsReal x :=
  ⟨x.toReal, (EReal.coe_toReal h'.ne h.ne').symm⟩

theorem IsReal.add {x y : EReal} : IsReal x → IsReal y → IsReal (x + y) := by
  rintro ⟨a, rfl⟩ ⟨b, rfl⟩
  exact ⟨a + b, (EReal.coe_add a b).symm⟩

theorem IsReal.sub {x y : EReal} : IsReal x → IsReal y → IsReal (x - y) := by
  rintro ⟨a, rfl⟩ ⟨b, rfl⟩
  exact ⟨a - b, (EReal.coe_sub a b).symm⟩

theorem IsReal.mul {x y : EReal} : IsReal x → IsReal y → IsReal (x * y) := by
  rintro ⟨a, rfl⟩ ⟨b, rfl⟩
  exact ⟨a * b, (EReal.coe_mul a b).symm⟩

theorem IsReal.sum {ι : Type} (s : Finset ι) (f : ι → EReal) (h : ∀ i, IsReal (f i)) : IsReal (∑ i ∈ s, f i) := by
  classical
  induction s using Finset.induction_on with
  | empty => exact ⟨0, by simp⟩
  | insert a s ha ih =>
    rw [Finset.sum_insert ha]
    exact (h a).add ih

theorem IsReal.lt_top {x : EReal} : IsReal x → x < ⊤ := by
  rintro ⟨r, rfl⟩
  exact EReal.coe_lt_top r

theorem bits_two : IsReal (Ideal.ofBits .f32 0x40000000#32) :=
  ⟨2, by simp [Ideal.ofBits, Ideal.ieee, -EReal.coe_mul, -EReal.coe_neg]; norm_num⟩

theorem bits_neg_inf : Ideal.ofBits .f32 0xFF800000#32 = ⊥ := by simp [Ideal.ofBits, Ideal.ieee]

theorem score_lt_top {w z : Fin 256 → EReal} {s : EReal} (hw : ∀ k, IsReal (w k)) (hz : ∀ k, IsReal (z k)) (hs : IsReal s) :
    score w z s < ⊤ :=
  (((IsReal.sum _ _ fun k => (hw k).mul (hw k)).add hs).sub (bits_two.mul (IsReal.sum _ _ fun k => (hw k).mul (hz k)))).lt_top

section Pre
open Cert.Pre_finite_and_labelled

instance preFacts : Facts where
  bcast_S_S8x256x32x32 := by decide
  reducesTo_S8x256x32x32_S_d0_1_2_3 := by decide
  h_S_ := by decide
  bcast_S_S8192x256 := by decide
  reducesTo_S8192x256_S_d0_1 := by decide
  bcast_S_S8 := by decide
  reducesTo_S8_S_d0 := by decide

instance noAxes : Subsingleton (Shape.Idx S_) := ⟨fun a b => funext fun k => k.elim0⟩

theorem bit_true {b : Bool} (h : BitVec.ofBool b = 1#1) : b = true := by
  cases b
  · exact absurd h (by decide)
  · rfl

/-- An element between the two infinities, from the two comparisons' conjunction. -/
theorem real_of_bit (a : EReal)
    (h : IntOp.andi (Ideal.cmp .ogt a (Ideal.ofBits .f32 0xFF800000#32)) (Ideal.cmp .olt a (Ideal.ofBits .f32 0x7F800000#32)) = 1#1) :
    IsReal a := by
  obtain ⟨h1, h2⟩ := (and_bit _ _).mp h
  rw [bits_neg_inf] at h1
  rw [bits_inf] at h2
  exact IsReal.of_between (of_decide_eq_true (bit_true h1)) (of_decide_eq_true (bit_true h2))

/-- THE PRECONDITION, element by element. -/
theorem pre_elements (x : FVec Ideal S8x256x32x32 .f32) (w : FVec Ideal S8192x256 .f32) (y : IVec S8 32)
    (h : fn (F := Ideal) x w y = fun _ => 1#1) :
    (∀ i, IsReal (x i)) ∧ (∀ i, IsReal (w i)) ∧ ∀ b, 0 ≤ (y b).toInt ∧ (y b).toInt < 10 := by
  have h0 := congrFun h (fun k => k.elim0)
  unfold fn fn_part1 at h0
  obtain ⟨h1, hy⟩ := (and_bit _ _).mp h0
  obtain ⟨hx, hw⟩ := (and_bit _ _).mp h1
  refine ⟨fun i => ?_, fun i => ?_, fun b => ?_⟩
  · exact real_of_bit _ (Host.reduce_andi_all _ _ _ _ _ hx i)
  · exact real_of_bit _ (Host.reduce_andi_all _ _ _ _ _ hw i)
  · obtain ⟨a1, a2⟩ := (and_bit _ _).mp (Host.reduce_andi_all _ _ _ _ _ hy b)
    exact ⟨(sge_bit _ _).mp a1, (slt_bit _ _).mp a2⟩

end Pre

end Cert.Proof

end
-- ==== Proof.Layout.lean ====
/- Where a pixel of a feature map lies in each of the arrays made from the maps. -/
module

public import proofs.«01_k».proof.Proof.Score

@[expose] public section

noncomputable section

namespace Cert.Proof

open Idealize.ShloMosaic Idealize.ShloMosaic.ValueIdx

/-- The row of pixel `p` of map `b` among all the pixels. -/
def pixel (b : Fin 8) (p : Fin 1024) : Fin 8192 := ⟨b.val * 1024 + p.val, by have := b.isLt; have := p.isLt; omega⟩

/-- The pixel's place in the maps, at channel `k`. -/
def place (b : Fin 8) (k : Fin 256) (p : Fin 1024) : (⟨4, ![8, 256, 32, 32]⟩ : Shape).Idx :=
  ix4 (n0 := 8) (n1 := 256) (n2 := 32) (n3 := 32) b k ⟨p.val / 32, by have := p.isLt; omega⟩ ⟨p.val % 32, Nat.mod_lt _ (by norm_num)⟩

section Reference
open Cert.ReferenceIdeal Cert.ReferenceIdeal.Gen

theorem pix_apply (x : FVec Ideal S8x256x32x32 .f32) (b : Fin 8) (k : Fin 256) (p : Fin 1024) :
    Ref.pix x (ix2 (n0 := 8192) (n1 := 256) (pixel b p) k) = x (place b k p) := by
  have hp := p.isLt
  unfold Ref.pix
  refine (shapeCast_apply (s := S8x32x32x256) (t := S8192x256) _ _ _
    (ix4 (n0 := 8) (n1 := 32) (n2 := 32) (n3 := 256) b ⟨p.val / 32, by omega⟩ ⟨p.val % 32, Nat.mod_lt _ (by norm_num)⟩ k) ?_).trans ?_
  · rw [Shape.rowMajor_val_four, Shape.rowMajor_val_two]
    show ((b.val * 32 + p.val / 32) * 32 + p.val % 32) * 256 + k.val = (b.val * 1024 + p.val) * 256 + k.val
    omega
  · exact transpose_apply _ _ _ _ _ fun a => match a with | ⟨0, _⟩ => rfl | ⟨1, _⟩ => rfl | ⟨2, _⟩ => rfl | ⟨3, _⟩ => rfl

end Reference

section Kernel
open Cert.KernelIdeal Cert.KernelIdeal.Gen

theorem maps_apply (x : FVec Ideal S8x256x32x32 .f32) (b : Fin 8) (k : Fin 256) (p : Fin 1024) :
    shapeCast S8x256x1024 x shapeCasts_S8x256x32x32_S8x256x1024 (ix3 (n0 := 8) (n1 := 256) (n2 := 1024) b k p) = x (place b k p) := by
  have hp := p.isLt
  refine shapeCast_apply (s := S8x256x32x32) (t := S8x256x1024) _ _ _ (place b k p) ?_
  rw [Shape.rowMajor_val_four, Shape.rowMajor_val_three]
  show ((b.val * 256 + k.val) * 32 + p.val / 32) * 32 + p.val % 32 = (b.val * 256 + k.val) * 1024 + p.val
  omega

theorem sqs_apply (x : FVec Ideal S8x256x32x32 .f32) (b : Fin 8) (p : Fin 1024) :
    sqs (F := Ideal) x (ix3 (n0 := 8) (n1 := 1) (n2 := 1024) b 0 p) = ∑ k : Fin 256, x (place b k p) * x (place b k p) := by
  unfold sqs
  refine (shapeCast_apply (s := S8192) (t := S8x1x1024) _ _ _ (ix1 (n := 8192) (pixel b p)) ?_).trans ?_
  · rw [Shape.rowMajor_val_one, Shape.rowMajor_val_three]
    show b.val * 1024 + p.val = (b.val * 1 + 0) * 1024 + p.val
    omega
  · refine (rowSq_apply (Ref.pix x) (pixel b p)).trans (Finset.sum_congr rfl fun k _ => ?_)
    rw [pix_apply]

end Kernel

end Cert.Proof

end
-- ==== Proof.KerValue.lean ====
/- The code the kernel picks for a pixel is the one the reference picks: the first of least score in the pixel's class. -/
module

public import proofs.«01_k».proof.Proof.KerRun
public import proofs.«01_k».proof.Proof.RefPick
public import proofs.«01_k».proof.Proof.Finite
public import proofs.«01_k».proof.Proof.Layout
public import proofs.«01_k».proof.Proof.Host
public import proofs.«01_k».proof.Proof.Word

@[expose] public section

noncomputable section

namespace Cert.Proof.Ker

open Idealize.ShloMosaic Idealize.ShloMosaic.TcCoe Idealize.ShloMosaic.ValueIdx
open Cert.KernelIdeal Cert.KernelIdeal.Gen

/-- A small word's signed value. -/
theorem toInt_of_toNat {v : BitVec 32} {n : ℕ} (h : v.toNat = n) (hn : n < 2 ^ 31) : v.toInt = (n : ℤ) := by
  rw [BitVec.toInt_eq_toNat_of_lt (by omega), h]

/-- The word of a window's row. -/
theorem rowWord_toNat {v : BitVec 32} {A : ℕ} (h : v.toNat = A) (hA : A + 832 ≤ 8192) (r : Fin 832) : (rowWord v r).toNat = A + r.val := by
  have hr := r.isLt
  unfold rowWord
  rw [BitVec.toNat_add, BitVec.toNat_ofNat, h]
  omega

/-- A pixel's label is its image's. -/
theorem lab_pixel (y : IVec S8 32) (b : Fin 8) (p : Fin 1024) : Ref.lab y (ix1 (n := 8192) (pixel b p)) = y (ix1 (n := 8) b) := by
  have hp := p.isLt
  refine (Ref.lab_apply y (pixel b p)).trans (congrArg (fun a => y (ix1 (n := 8) a)) (Fin.ext ?_))
  show (b.val * 1024 + p.val) / 1024 = b.val
  omega

/-- Every score the reference holds is finite. -/
theorem dist_lt_top (x : FVec Ideal S8x256x32x32 .f32) (w : FVec Ideal S8192x256 .f32) (hx : ∀ i, IsReal (x i)) (hw : ∀ i, IsReal (w i))
    (b : Fin 8) (p : Fin 1024) (n : Fin 8192) :
    Ref.dist (F := Ideal) (Ref.pix x) w (ix2 (n0 := 8192) (n1 := 8192) (pixel b p) n) < ⊤ := by
  rw [dist_apply]
  refine score_lt_top (fun k => hw _) (fun k => ?_) (IsReal.sum _ _ fun k => ?_)
  · rw [pix_apply]; exact hx _
  · rw [pix_apply]; exact (hx _).mul (hx _)

/-- AT A PIXEL: the payload of the kernel's store is the reference's code, when the window holds the codebook's rows from
    the aligned first code on and the class's bounds are the tables' words. -/
theorem stored_best (x : FVec Ideal S8x256x32x32 .f32) (w : FVec Ideal S8192x256 .f32) (y : IVec S8 32)
    (hx : ∀ i, IsReal (x i)) (hw : ∀ i, IsReal (w i)) (hy : ∀ b, 0 ≤ (y b).toInt ∧ (y b).toInt < 10)
    (b : Fin 8) (p : Fin 1024) (v1 v3 : BitVec 32) (h1 : v1 = starts (F := Ideal) y (ix1 (n := 8) b))
    (h3 : v3 = stops (F := Ideal) y (ix1 (n := 8) b)) (wnd : FVec Ideal S832x256 .f32) (z : FVec Ideal S1x256x1024 .f32)
    (s : FVec Ideal S1x1x1024 .f32) (hz : ∀ k, z (ix3 (n0 := 1) (n1 := 256) (n2 := 1024) 0 k p) = x (place b k p))
    (hs : s (ix3 (n0 := 1) (n1 := 1) (n2 := 1024) 0 0 p) = ∑ k : Fin 256, x (place b k p) * x (place b k p))
    (hwnd : ∀ (r : Fin 832) (k : Fin 256) (n : Fin 8192), n.val = (alignWord v1).toNat + r.val →
      wnd (ix2 (n0 := 832) (n1 := 256) r k) = w (ix2 (n0 := 8192) (n1 := 256) n k)) :
    stored (F := Ideal) v1 v3 wnd z s (ix3 (n0 := 1) (n1 := 1) (n2 := 1024) 0 0 p) = Ref.best (F := Ideal) x w y (ix1 (n := 8192) (pixel b p)) := by
  obtain ⟨hy0, hy1⟩ := hy (ix1 (n := 8) b)
  have e1 : v1.toNat = 819 * (y (ix1 (n := 8) b)).toInt.toNat := h1 ▸ starts_apply y _ hy0 hy1
  have e3 : v3.toNat = classEnd (y (ix1 (n := 8) b)).toInt.toNat := h3 ▸ stops_apply y _ hy0 hy1
  have hl := lab_pixel y b p
  have hn := Ref.best_spec x w y (pixel b p) (hl ▸ hy0) (hl ▸ hy1) (dist_lt_top x w hx hw b p)
  rw [hl] at hn
  generalize hc : (y (ix1 (n := 8) b)).toInt.toNat = c at e1 e3 hn
  have hc9 : c ≤ 9 := by omega
  unfold classEnd at e3
  have eA : (alignWord v1).toNat = min (8 * (819 * c / 8)) 7360 := by
    rw [alignWord_toNat v1 (by omega), e1]
  generalize hAdef : (alignWord v1).toNat = A at eA hwnd
  have hA : A + 832 ≤ 8192 := by omega
  have hvalid : ∀ r : Fin 832, Valid v1 v3 (alignWord v1) r ↔ Ref.InClass c (A + r.val) := by
    intro r
    have hr := r.isLt
    unfold Valid Ref.InClass
    rw [toInt_of_toNat e1 (by omega), toInt_of_toNat e3 (by omega), toInt_of_toNat (rowWord_toNat hAdef hA r) (by omega)]
    omega
  have hent : ∀ (r : Fin 832) (n : Fin 8192), n.val = A + r.val → k0_pay2 (F := Ideal) wnd z s (ix2 (n0 := 832) (n1 := 1024) r p)
      = Ref.dist (F := Ideal) (Ref.pix x) w (ix2 (n0 := 8192) (n1 := 8192) (pixel b p) n) := by
    intro r n hrn
    rw [pay2_apply, dist_apply]
    have a1 : (fun k => wnd (ix2 (n0 := 832) (n1 := 256) r k)) = fun k => w (ix2 (n0 := 8192) (n1 := 256) n k) :=
      funext fun k => hwnd r k n hrn
    have a2 : (fun k => z (ix3 (n0 := 1) (n1 := 256) (n2 := 1024) 0 k p))
        = fun k => Ref.pix x (ix2 (n0 := 8192) (n1 := 256) (pixel b p) k) := funext fun k => (hz k).trans (pix_apply x b k p).symm
    have a3 : s (ix3 (n0 := 1) (n1 := 1) (n2 := 1024) 0 0 p)
        = ∑ k : Fin 256, Ref.pix x (ix2 (n0 := 8192) (n1 := 256) (pixel b p) k) * Ref.pix x (ix2 (n0 := 8192) (n1 := 256) (pixel b p) k) :=
      hs.trans (Finset.sum_congr rfl fun k _ => by rw [pix_apply])
    rw [a1, a2, a3]
  have hrow : ∀ r : Fin 832, A + r.val < 8192 := fun r => by have := r.isLt; omega
  obtain ⟨r, hr, hout, hmin⟩ := Cert.Proof.stored v1 v3 (alignWord v1) (k0_pay2 (F := Ideal) wnd z s) A hA hAdef p
    (fun r _ => (hent r ⟨A + r.val, hrow r⟩ rfl) ▸ dist_lt_top x w hx hw b p _)
    ⟨⟨819 * c - A, by omega⟩, (hvalid _).mpr (by unfold Ref.InClass; dsimp only; omega)⟩
  obtain ⟨n, hnc, hbest, hleast⟩ := hn
  have hnc' := hnc
  unfold Ref.InClass at hnc'
  have hnl : n.val - A < 832 := by omega
  have hnA : n.val = A + (⟨n.val - A, hnl⟩ : Fin 832).val := by dsimp only; omega
  obtain ⟨m1, m2⟩ := hmin ⟨n.val - A, hnl⟩ ((hvalid _).mpr (hnA ▸ hnc))
  obtain ⟨l1, l2⟩ := hleast ⟨A + r.val, hrow r⟩ ((hvalid r).mp hr)
  rw [hent _ n hnA, hent r ⟨A + r.val, hrow r⟩ rfl] at m1 m2
  have hrn : n.val = A + r.val := by
    rcases lt_trichotomy (n.val - A) r.val with h | h | h
    · exact absurd (m2 h) (not_lt.mpr l1)
    · omega
    · exact absurd (l2 (show A + r.val < n.val by omega)) (not_lt.mpr m1)
  refine hout.trans (Eq.trans ?_ hbest.symm)
  apply BitVec.eq_of_toNat_eq
  rw [rowWord_toNat hAdef hA r, BitVec.toNat_ofNat]
  omega

variable (m : (ℓ : Loc nD τ sig) → Buf (Elt Ideal) ℓ)

/-- THE REGION'S ROWS, a pixel at a time. -/
theorem rows_best (hO : Ok m) (hH : Hyps m hO) (c : Dev nD)
    (hx : ∀ i, IsReal ((m ((c : Thread nD τ).loc main_arg0) : FVec Ideal S8x256x32x32 .f32) i))
    (hw : ∀ i, IsReal ((m ((c : Thread nD τ).loc main_arg1) : FVec Ideal S8192x256 .f32) i))
    (hy : ∀ b, 0 ≤ ((m ((c : Thread nD τ).loc main_arg2) : IVec S8 32) b).toInt ∧ ((m ((c : Thread nD τ).loc main_arg2) : IVec S8 32) b).toInt < 10)
    (b : Fin 8) (p : Fin 1024) :
    rows m hO hH c (ix3 (n0 := 8) (n1 := 1) (n2 := 1024) b 0 p)
      = Ref.best (F := Ideal) (m ((c : Thread nD τ).loc main_arg0)) (m ((c : Thread nD τ).loc main_arg1)) (m ((c : Thread nD τ).loc main_arg2))
          (ix1 (n := 8192) (pixel b p)) := by
  obtain ⟨t, ht⟩ : ∃ t : Fin grid0.N, b.val = t.val := ⟨⟨b.val, b.isLt⟩, rfl⟩
  have h : rows m hO hH c (ix3 (n0 := 8) (n1 := 1) (n2 := 1024) b 0 p) = outsAt0 m hO hH c t (ix3 (n0 := 1) (n1 := 1) (n2 := 1024) 0 0 p) :=
    congrArg (fun u : Fin grid0.N => outsAt0 m hO hH c u (ix3 (n0 := 1) (n1 := 1) (n2 := 1024) 0 0 p)) (Fin.ext ht)
  refine h.trans ?_
  refine (congrFun (out_eq c (grid0.coords t) _ _ _ _ _ _ _ _ (iblk m hO c 0 t) (iblk m hO c 1 t) (iblk m hO c 2 t) (tbl m 0) (tbl m 1)
    (Hyps.c0 hH c t)) _).trans ?_
  refine stored_best _ _ _ hx hw hy b p _ _ ?_ ?_ _ _ _ (fun k => ?_) ?_ (fun r k n hn => ?_)
  · rw [word0 m c _ b ht, V_starts]
  · rw [word1 m c _ b ht, V_stops]
  · rw [block0 m hO c _ b ht, V_maps]
    exact maps_apply _ b k p
  · rw [block1 m hO c _ b ht, V_sqs]
    exact sqs_apply _ b p
  · refine Eq.trans ?_ ((block2 m hO c t n k).trans (congrFun (V_main_arg1 m c) _))
    refine congrArg (iblk m hO c 2 t : Vec Ideal S8192x256 .f32) ?_
    funext a; apply Fin.ext
    match a with
    | ⟨0, _⟩ => show (alignWord _).toNat + 1 * r.val = n.val; omega
    | ⟨1, _⟩ => show 0 + 1 * k.val = k.val; omega

end Cert.Proof.Ker

end
-- ==== Proof.KerResult.lean ====
/- The kernel's program's result: the rows its region leaves, reshaped. -/
module

public import proofs.«01_k».proof.Proof.KerRun

@[expose] public section

noncomputable section

namespace Cert.Proof.Ker

open Idealize.ShloMosaic Idealize.ShloMosaic.TcCoe Idealize.ShloMosaic.StableHlo Idealize.SL.Sem
open Cert.KernelIdeal Cert.KernelIdeal.Gen

variable {F : FTy → Type} [FloatOps F]
variable (m : (ℓ : Loc nD τ sig) → Buf (Elt F) ℓ) (ρ : Dev nD → PrngReg)

/-- The windows' arrays are four different ones. -/
theorem arrays_inj : Function.Injective (Pipeline.arrRef spec0) := by decide

/-- The result buffer is none of them. -/
theorem result_rest : main_v34 ∈ Pipeline.restRefs sig spec0 := by decide

/-- The line after the region reshapes its result array. -/
theorem tail_eq (hO : Ok m) (hH : Hyps m hO) (c : Dev nD) :
    Pipeline.afterTail pcfgs (fun _ => adm m hO) (dats m hO hH) 0 (V0 m) [hostOps1] c main_v34
      = shapeCast S8x32x32 (rows m hO hH c) shapeCasts_S8x1x1024_S8x32x32 := by
  unfold Pipeline.afterTail
  have h : ∀ W : Valuation τ sig (Elt F), StableHlo.after (List.flatten [hostOps1]) W (Proc.devRef .tc main_v34)
      = shapeCast S8x32x32 (W (main_v33 : DevRef τ sig) : IVec S8x1x1024 32) shapeCasts_S8x1x1024_S8x32x32 := by
    intro W
    after_reads_simp
    rfl
  refine (h _).trans (congrArg (fun z : IVec S8x1x1024 32 => shapeCast S8x32x32 z shapeCasts_S8x1x1024_S8x32x32) ?_)
  exact (Pipeline.withArrays_arr spec0 arrays_inj _ _ _ (3 : Fin 4)).trans (array3 m hO hH c)

/-- The run, with the result at the region's rows. -/
theorem run (hO : Ok m) (hH : Hyps m hO) : θ_run defs (onTc (τ := τ) (main (F := F))) ⟨m, fun _ => 0, ρ⟩ (fun r => ∀ c : Dev nD,
      r.2.mem ((c.tc : Thread nD τ).loc main_v34) = shapeCast S8x32x32 (rows m hO hH c) shapeCasts_S8x1x1024_S8x32x32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).2 main_v34 result_rest).trans (tail_eq m hO hH c), h.2 c⟩)
    (θ_run_and (run_main m ρ hO hH) (unchanged m ρ hO hH))

end Cert.Proof.Ker

end
-- ==== Proof.Value.lean ====
/- The value claim: the kernel and the reference end with the same code at every pixel. -/
module

public import proofs.«01_k».proof.Defs
public import proofs.«01_k».proof.Proof.KerValue
public import proofs.«01_k».proof.Proof.KerResult

@[expose] public section

noncomputable section

namespace Cert.Proof

open Idealize.ShloMosaic Idealize.ShloMosaic.TcCoe Idealize.ShloMosaic.ValueIdx Idealize.SL.Sem

/-- The two results' layouts: row `(b, 0, p)` of the one and row `pixel b p` of the other lie at the same place. -/
theorem results_eq (g : IVec Cert.KernelIdeal.S8x1x1024 32) (v : IVec Cert.ReferenceIdeal.S8192 32)
    (h : ∀ (b : Fin 8) (p : Fin 1024), g (ix3 (n0 := 8) (n1 := 1) (n2 := 1024) b 0 p) = v (ix1 (n := 8192) (pixel b p))) :
    shapeCast Cert.KernelIdeal.S8x32x32 g Cert.KernelIdeal.Facts₀.shapeCasts_S8x1x1024_S8x32x32
      = shapeCast Cert.ReferenceIdeal.S8x32x32 v Cert.ReferenceIdeal.Facts₀.shapeCasts_S8192_S8x32x32 := by
  funext i
  obtain ⟨b, r, s, rfl⟩ : ∃ (b : Fin 8) (r s : Fin 32), i = ix3 (n0 := 8) (n1 := 32) (n2 := 32) b r s := ⟨i 0, i 1, i 2, eq_ix3 i⟩
  have hr := r.isLt
  have hs := s.isLt
  have e1 := shapeCast_apply (s := Cert.KernelIdeal.S8x1x1024) (t := Cert.KernelIdeal.S8x32x32) g
    Cert.KernelIdeal.Facts₀.shapeCasts_S8x1x1024_S8x32x32 (ix3 (n0 := 8) (n1 := 32) (n2 := 32) b r s)
    (ix3 (n0 := 8) (n1 := 1) (n2 := 1024) b 0 ⟨r.val * 32 + s.val, by omega⟩) (by
      rw [Shape.rowMajor_val_three, Shape.rowMajor_val_three]
      show (b.val * 1 + 0) * 1024 + (r.val * 32 + s.val) = (b.val * 32 + r.val) * 32 + s.val
      omega)
  have e2 := shapeCast_apply (s := Cert.ReferenceIdeal.S8192) (t := Cert.ReferenceIdeal.S8x32x32) v
    Cert.ReferenceIdeal.Facts₀.shapeCasts_S8192_S8x32x32 (ix3 (n0 := 8) (n1 := 32) (n2 := 32) b r s)
    (ix1 (n := 8192) (pixel b ⟨r.val * 32 + s.val, by omega⟩)) (by
      rw [Shape.rowMajor_val_one, Shape.rowMajor_val_three]
      show b.val * 1024 + (r.val * 32 + s.val) = (b.val * 32 + r.val) * 32 + s.val
      omega)
  exact e1.trans ((h b _).trans e2.symm)

/-- Over the extended reals, from finite arguments and labels of the ten classes, the kernel's codes are the reference's. -/
theorem value : Cert.algebraic_KernelIdeal_ReferenceIdeal_pre_finite_and_labelled := by
  intro m g m' g' hpre hargs
  refine ⟨fun c => shapeCast Cert.KernelIdeal.S8x32x32
      (Ker.rows m (Cert.KernelIdeal.Side.ok m) (Cert.KernelIdeal.Side.hyps m) c) Cert.KernelIdeal.Facts₀.shapeCasts_S8x1x1024_S8x32x32,
    Ker.run m g _ _, ?_⟩
  refine (θ_run Cert.ReferenceIdeal.defs _ _).mono (fun r hr c => ⟨(hr.1 c).1.trans ?_, (hr.1 c).2⟩) (Ref.run_main m' g')
  obtain ⟨a0, a1, a2⟩ := hargs c
  rw [a0, a1, a2]
  obtain ⟨hx, hw, hy⟩ := pre_elements _ _ _ (hpre c)
  exact (results_eq _ _ fun b p => Ker.rows_best m _ _ c hx hw hy b p).symm

end Cert.Proof

end
-- ==== Proof.lean ====
module

public import proofs.«01_k».proof.Defs
public import proofs.«01_k».proof.Proof.Frames
public import proofs.«01_k».proof.Proof.Value

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, preFacts, frame_kernel, frame_ideal,
    fun m ρ _ => frame_ideal m ρ trivial, frame_reference, fun m ρ _ => frame_reference m ρ trivial, trivial, value⟩

end Cert.Proof

end
